-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_documents [hPre_indices_in_documents : Cert.Pre_indices_in_documents.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_documents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_indices_in_documents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_indices_in_documents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_indices_in_documents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_documents [hPre_indices_in_documents : Cert.Pre_indices_in_documents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_documents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_indices_in_documents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_indices_in_documents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_indices_in_documents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_indices_in_documents [hKernelIdeal : Cert.KernelIdeal.Facts] [hPre_indices_in_documents : Cert.Pre_indices_in_documents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_documents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_indices_in_documents [hReferenceIdeal : Cert.ReferenceIdeal.Facts] [hPre_indices_in_documents : Cert.Pre_indices_in_documents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_documents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_indices_in_documents [hKernelIdeal : Cert.KernelIdeal.Facts] [hReferenceIdeal : Cert.ReferenceIdeal.Facts] [hPre_indices_in_documents : Cert.Pre_indices_in_documents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_documents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_indices_in_documents : Cert.Pre_indices_in_documents.Facts),
    quiescent_Kernel (hKernel := hKernel)
    ∧ quiescent_KernelIdeal (hKernelIdeal := hKernelIdeal)
    ∧ quiescent_KernelIdeal_pre_indices_in_documents (hKernelIdeal := hKernelIdeal) (hPre_indices_in_documents := hPre_indices_in_documents)
    ∧ quiescent_ReferenceIdeal (hReferenceIdeal := hReferenceIdeal)
    ∧ quiescent_ReferenceIdeal_pre_indices_in_documents (hReferenceIdeal := hReferenceIdeal) (hPre_indices_in_documents := hPre_indices_in_documents)
    ∧ preserves_Kernel_KernelIdeal
    ∧ algebraic_KernelIdeal_ReferenceIdeal_pre_indices_in_documents (hKernelIdeal := hKernelIdeal) (hReferenceIdeal := hReferenceIdeal) (hPre_indices_in_documents := hPre_indices_in_documents)
-- ==== Pre_indices_in_documents.lean ====
abbrev S68x32x160 : Shape := ⟨3, ![68, 32, 160]⟩
abbrev S68x32 : Shape := ⟨2, ![68, 32]⟩
abbrev S365568x160 : Shape := ⟨2, ![365568, 160]⟩
abbrev S365568 : Shape := ⟨1, ![365568]⟩
abbrev S408 : Shape := ⟨1, ![408]⟩
abbrev S68x408x32 : Shape := ⟨3, ![68, 408, 32]⟩
abbrev S68x408 : Shape := ⟨2, ![68, 408]⟩
abbrev S_ : Shape := ⟨0, ![]⟩
abbrev S1x408x1 : Shape := ⟨3, ![1, 408, 1]⟩

class Facts : Prop where
  bcast_S_S68x408x32 : S_.BroadcastsInDim S68x408x32 (![] : Fin 0 → Fin S68x408x32.rank)
  bcast_S408_S1x408x1_1 : S408.BroadcastsInDim S1x408x1 (![1] : Fin 1 → Fin S1x408x1.rank)
  bcast_S1x408x1_S68x408x32_0_1_2 : S1x408x1.BroadcastsInDim S68x408x32 (![0, 1, 2] : Fin 3 → Fin S68x408x32.rank)
  bcast_S_S408 : S_.BroadcastsInDim S408 (![] : Fin 0 → Fin S408.rank)
  bcast_S_S_ : S_.BroadcastsInDim S_ (![] : Fin 0 → Fin S_.rank)
  reduceWindows_S408_S408_w408s1p407_0 : S408.ReduceWindows (![408] : Fin 1 → Nat) ![1] ![407] ![0] S408
  h_S_ : 0 < S_.numel

variable [Facts]

def fn_cumsum {F : FTy → Type} [FloatOps F] (arg0 : IVec S408 32) : IVec S408 32 :=
  let c : IVec S_ 32 := constantI S_ 32 0#32
  let v0 : IVec S_ 32 := broadcastInDim S_ ![] bcast_S_S_ c
  let v1 : IVec S408 32 := (fun x v => Host.reduceWindow IntOp.addi ![408] ![1] ![407] ![0] x v reduceWindows_S408_S408_w408s1p407_0 h_S_) arg0 v0
  v1

def fn {F : FTy → Type} [FloatOps F] (main_arg0 : FVec F S68x32x160 .fp8e4m3) (main_arg1 : FVec F S68x32 .f32) (main_arg2 : FVec F S365568x160 .fp8e4m3) (main_arg3 : FVec F S365568 .f32) (main_arg4 : IVec S408 32) (main_arg5 : IVec S68x408x32 32) (main_arg6 : FVec F S68x408 .bf16) : IVec S68x408x32 1 × IVec S68x408x32 1 × IVec S408 1 × IVec S408 1 :=
  let main_c : IVec S_ 32 := constantI S_ 32 0#32
  let main_v0 : IVec S68x408x32 32 := broadcastInDim S68x408x32 ![] bcast_S_S68x408x32 main_c
  let main_v1 : IVec S68x408x32 1 := cmpi .sge main_arg5 main_v0
  let main_v2 : IVec S1x408x1 32 := broadcastInDim S1x408x1 ![1] bcast_S408_S1x408x1_1 main_arg4
  let main_v3 : IVec S68x408x32 32 := broadcastInDim S68x408x32 ![0, 1, 2] bcast_S1x408x1_S68x408x32_0_1_2 main_v2
  let main_v4 : IVec S68x408x32 1 := cmpi .slt main_arg5 main_v3
  let main_c_0 : IVec S_ 32 := constantI S_ 32 365568#32
  let main_v5 : IVec S408 32 := broadcastInDim S408 ![] bcast_S_S408 main_c_0
  let main_v6 : IVec S408 1 := cmpi .sle main_arg4 main_v5
  let main_v7 : IVec S408 32 := fn_cumsum (F := F) main_arg4
  let main_c_1 : IVec S_ 32 := constantI S_ 32 365568#32
  let main_v8 : IVec S408 32 := broadcastInDim S408 ![] bcast_S_S408 main_c_1
  let main_v9 : IVec S408 1 := cmpi .sle main_v7 main_v8
  (main_v1, main_v4, main_v6, main_v9)
-- ==== Kernel.lean ====
abbrev S68x32x160 : Shape := ⟨3, ![68, 32, 160]⟩
abbrev S68x32 : Shape := ⟨2, ![68, 32]⟩
abbrev S365568x160 : Shape := ⟨2, ![365568, 160]⟩
abbrev S365568 : Shape := ⟨1, ![365568]⟩
abbrev S408 : Shape := ⟨1, ![408]⟩
abbrev S68x408x32 : Shape := ⟨3, ![68, 408, 32]⟩
abbrev S68x408 : Shape := ⟨2, ![68, 408]⟩
abbrev S_ : Shape := ⟨0, ![]⟩
abbrev S1428 : Shape := ⟨1, ![1428]⟩
abbrev S1x1428 : Shape := ⟨2, ![1, 1428]⟩
abbrev S408x1 : Shape := ⟨2, ![408, 1]⟩
abbrev S408x1428 : Shape := ⟨2, ![408, 1428]⟩
abbrev S408x68x32 : Shape := ⟨3, ![408, 68, 32]⟩
abbrev S408x2176 : Shape := ⟨2, ![408, 2176]⟩
abbrev S408x68 : Shape := ⟨2, ![408, 68]⟩
abbrev S2176x160 : Shape := ⟨2, ![2176, 160]⟩
abbrev S2176x1 : Shape := ⟨2, ![2176, 1]⟩
abbrev S1428x1x256 : Shape := ⟨3, ![1428, 1, 256]⟩
abbrev S160x2176 : Shape := ⟨2, ![160, 2176]⟩
abbrev S256x160 : Shape := ⟨2, ![256, 160]⟩
abbrev S1x1x256 : Shape := ⟨3, ![1, 1, 256]⟩
abbrev S1 : Shape := ⟨1, ![1]⟩
abbrev S1x2176 : Shape := ⟨2, ![1, 2176]⟩
abbrev S256x2176 : Shape := ⟨2, ![256, 2176]⟩
abbrev S160x256 : Shape := ⟨2, ![160, 256]⟩
abbrev S1x256 : Shape := ⟨2, ![1, 256]⟩

abbrev nBuf : Space → Nat
  | .hbm => 44
  | .vmem => 14
  | .smem => 3
  | _ => 0

abbrev bufTy : (tb : Table) → Fin (tcTables nBuf tb) → BufTy
  | .hbm, ⟨0, _⟩ => ⟨S68x32x160, .fp8e4m3⟩
  | .hbm, ⟨1, _⟩ => ⟨S68x32, .f32⟩
  | .hbm, ⟨2, _⟩ => ⟨S365568x160, .fp8e4m3⟩
  | .hbm, ⟨3, _⟩ => ⟨S365568, .f32⟩
  | .hbm, ⟨4, _⟩ => ⟨S408, .i32⟩
  | .hbm, ⟨5, _⟩ => ⟨S68x408x32, .i32⟩
  | .hbm, ⟨6, _⟩ => ⟨S68x408, .bf16⟩
  | .hbm, ⟨7, _⟩ => ⟨S_, .i32⟩
  | .hbm, ⟨8, _⟩ => ⟨S_, .i32⟩
  | .hbm, ⟨9, _⟩ => ⟨S408, .i32⟩
  | .hbm, ⟨10, _⟩ => ⟨S1428, .i32⟩
  | .hbm, ⟨11, _⟩ => ⟨S_, .i32⟩
  | .hbm, ⟨12, _⟩ => ⟨S1428, .i32⟩
  | .hbm, ⟨13, _⟩ => ⟨S1428, .i32⟩
  | .hbm, ⟨14, _⟩ => ⟨S1x1428, .i32⟩
  | .hbm, ⟨15, _⟩ => ⟨S408x1, .i32⟩
  | .hbm, ⟨16, _⟩ => ⟨S408x1428, .i32⟩
  | .hbm, ⟨17, _⟩ => ⟨S408x1428, .i32⟩
  | .hbm, ⟨18, _⟩ => ⟨S408x1428, .i1⟩
  | .hbm, ⟨19, _⟩ => ⟨S408x1428, .i32⟩
  | .hbm, ⟨20, _⟩ => ⟨S_, .i32⟩
  | .hbm, ⟨21, _⟩ => ⟨S_, .i32⟩
  | .hbm, ⟨22, _⟩ => ⟨S1428, .i32⟩
  | .hbm, ⟨23, _⟩ => ⟨S1428, .i32⟩
  | .hbm, ⟨24, _⟩ => ⟨S1x1428, .i32⟩
  | .hbm, ⟨25, _⟩ => ⟨S408x1, .i32⟩
  | .hbm, ⟨26, _⟩ => ⟨S408x1428, .i32⟩
  | .hbm, ⟨27, _⟩ => ⟨S408x1428, .i32⟩
  | .hbm, ⟨28, _⟩ => ⟨S408x1428, .i1⟩
  | .hbm, ⟨29, _⟩ => ⟨S408x1428, .i32⟩
  | .hbm, ⟨30, _⟩ => ⟨S_, .i32⟩
  | .hbm, ⟨31, _⟩ => ⟨S408x68x32, .i32⟩
  | .hbm, ⟨32, _⟩ => ⟨S408x2176, .i32⟩
  | .hbm, ⟨33, _⟩ => ⟨S408x68, .bf16⟩
  | .hbm, ⟨34, _⟩ => ⟨S408x68, .f32⟩
  | .hbm, ⟨35, _⟩ => ⟨S408x68x32, .f32⟩
  | .hbm, ⟨36, _⟩ => ⟨S408x2176, .f32⟩
  | .hbm, ⟨37, _⟩ => ⟨S2176x160, .fp8e4m3⟩
  | .hbm, ⟨38, _⟩ => ⟨S2176x1, .f32⟩
  | .hbm, ⟨39, _⟩ => ⟨S1428x1x256, .f32⟩
  | .hbm, ⟨40, _⟩ => ⟨S160x2176, .bf16⟩
  | .hbm, ⟨41, _⟩ => ⟨S365568x160, .bf16⟩
  | .hbm, ⟨42, _⟩ => ⟨S2176x160, .bf16⟩
  | .hbm, ⟨43, _⟩ => ⟨S68x32x160, .bf16⟩
  | .local _ .vmem, ⟨0, _⟩ => ⟨S408x2176, .i32⟩
  | .local _ .vmem, ⟨1, _⟩ => ⟨S408x2176, .f32⟩
  | .local _ .vmem, ⟨2, _⟩ => ⟨S2176x160, .fp8e4m3⟩
  | .local _ .vmem, ⟨3, _⟩ => ⟨S2176x1, .f32⟩
  | .local _ .vmem, ⟨4, _⟩ => ⟨S256x160, .fp8e4m3⟩
  | .local _ .vmem, ⟨5, _⟩ => ⟨S256x160, .fp8e4m3⟩
  | .local _ .vmem, ⟨6, _⟩ => ⟨S1x1x256, .f32⟩
  | .local _ .vmem, ⟨7, _⟩ => ⟨S1x1x256, .f32⟩
  | .local _ .vmem, ⟨8, _⟩ => ⟨S160x2176, .bf16⟩
  | .local _ .vmem, ⟨9, _⟩ => ⟨S256x160, .bf16⟩
  | .local _ .vmem, ⟨10, _⟩ => ⟨S256x160, .bf16⟩
  | .local _ .vmem, ⟨11, _⟩ => ⟨S2176x160, .bf16⟩
  | .local _ .vmem, ⟨12, _⟩ => ⟨S160x2176, .f32⟩
  | .local _ .vmem, ⟨13, _⟩ => ⟨S256x160, .f32⟩
  | .local _ .smem, ⟨0, _⟩ => ⟨S1428, .i32⟩
  | .local _ .smem, ⟨1, _⟩ => ⟨S1428, .i32⟩
  | .local _ .smem, ⟨2, _⟩ => ⟨S408, .i32⟩
  | _, _ => ⟨S68x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_v0 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_call1_call0_v0 : Ref sig .tc := ⟨.hbm, 14, rfl⟩
abbrev main_call1_call0_v1 : Ref sig .tc := ⟨.hbm, 15, rfl⟩
abbrev main_call1_call0_v2 : Ref sig .tc := ⟨.hbm, 16, rfl⟩
abbrev main_call1_call0_v3 : Ref sig .tc := ⟨.hbm, 17, rfl⟩
abbrev main_call1_call0_v4 : Ref sig .tc := ⟨.hbm, 18, rfl⟩
abbrev main_call1_call0_v5 : Ref sig .tc := ⟨.hbm, 19, rfl⟩
abbrev main_call1_call0_c : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_call2_call0_v0 : Ref sig .tc := ⟨.hbm, 24, rfl⟩
abbrev main_call2_call0_v1 : Ref sig .tc := ⟨.hbm, 25, rfl⟩
abbrev main_call2_call0_v2 : Ref sig .tc := ⟨.hbm, 26, rfl⟩
abbrev main_call2_call0_v3 : Ref sig .tc := ⟨.hbm, 27, rfl⟩
abbrev main_call2_call0_v4 : Ref sig .tc := ⟨.hbm, 28, rfl⟩
abbrev main_call2_call0_v5 : Ref sig .tc := ⟨.hbm, 29, rfl⟩
abbrev main_call2_call0_c : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v19 : Ref sig .tc := ⟨.hbm, 42, rfl⟩
abbrev main_v20 : Ref sig .tc := ⟨.hbm, 43, rfl⟩
abbrev main_v5 : Ref sig .tc := ⟨.smem, 0, rfl⟩
abbrev main_v8 : Ref sig .tc := ⟨.smem, 1, rfl⟩
abbrev main_v1 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![1428], ![false]⟩

abbrev pre0 : Pipeline.Prefetch sig := ⟨3, ![main_v5.idx, main_v8.idx, main_v1.idx], fun | 0 => main_v5.names | 1 => main_v8.names | 2 => main_v1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
@[reducible] def k0_t1_loop (v4 : BitVec 32) (v6 : BitVec 32) : Scf.Loop 32 :=
  let v11 : BitVec 32 := Scalar.subi v6 v4
  let c1_i32 : BitVec 32 := 1#32
  let v13 : BitVec 32 := Scalar.divsi v11 c1_i32
  let v14 : BitVec 32 := Scalar.muli v13 c1_i32
  let v15 : BitVec 32 := Scalar.addi v4 v14
  let c1_i32_3 : BitVec 32 := 1#32
  ⟨v4, v15, c1_i32_3⟩

def k0_off2 (v4 : BitVec 32) (v6 : BitVec 32) (k0_t1 : Fin (k0_t1_loop v4 v6).trips) : Fin 2 → Nat :=
  let c1_i32_3 : BitVec 32 := 1#32
  let arg15 : BitVec 32 := Scf.iv v4 c1_i32_3 k0_t1
  let v22 : Index := Scalar.indexCast arg15
  let c0_10 : Index := 0#32
  ![v22.toNat, 0]
def k0_off3 (v4 : BitVec 32) (v6 : BitVec 32) (k0_t1 : Fin (k0_t1_loop v4 v6).trips) : Fin 1 → Nat :=
  let c1_i32_3 : BitVec 32 := 1#32
  let arg15 : BitVec 32 := Scf.iv v4 c1_i32_3 k0_t1
  let v28 : Index := Scalar.indexCast arg15
  ![v28.toNat]
@[reducible] def k0_t2_loop (v4 : BitVec 32) (v6 : BitVec 32) : Scf.Loop 32 :=
  let v11 : BitVec 32 := Scalar.subi v6 v4
  let c1_i32 : BitVec 32 := 1#32
  let v13 : BitVec 32 := Scalar.divsi v11 c1_i32
  let v14 : BitVec 32 := Scalar.muli v13 c1_i32
  let v15 : BitVec 32 := Scalar.addi v4 v14
  let v12 : BitVec 32 := Scalar.addi v4 v11
  let c1_i32_4 : BitVec 32 := 1#32
  ⟨v15, v12, c1_i32_4⟩
def k0_off4 (v4 : BitVec 32) (v6 : BitVec 32) (k0_t2 : Fin (k0_t2_loop v4 v6).trips) : Fin 2 → Nat :=
  let v11 : BitVec 32 := Scalar.subi v6 v4
  let c1_i32 : BitVec 32 := 1#32
  let v13 : BitVec 32 := Scalar.divsi v11 c1_i32
  let v14 : BitVec 32 := Scalar.muli v13 c1_i32
  let v15 : BitVec 32 := Scalar.addi v4 v14
  let c1_i32_4 : BitVec 32 := 1#32
  let arg15 : BitVec 32 := Scf.iv v15 c1_i32_4 k0_t2
  let v22 : Index := Scalar.indexCast arg15
  let c0_10 : Index := 0#32
  ![v22.toNat, 0]
def k0_off5 (v4 : BitVec 32) (v6 : BitVec 32) (k0_t2 : Fin (k0_t2_loop v4 v6).trips) : Fin 1 → Nat :=
  let v11 : BitVec 32 := Scalar.subi v6 v4
  let c1_i32 : BitVec 32 := 1#32
  let v13 : BitVec 32 := Scalar.divsi v11 c1_i32
  let v14 : BitVec 32 := Scalar.muli v13 c1_i32
  let v15 : BitVec 32 := Scalar.addi v4 v14
  let c1_i32_4 : BitVec 32 := 1#32
  let arg15 : BitVec 32 := Scf.iv v15 c1_i32_4 k0_t2
  let v28 : Index := Scalar.indexCast arg15
  ![v28.toNat]

def k0_chk1 (v4 : BitVec 32) (v6 : BitVec 32) : Prop :=
  ((k0_t1_loop v4 v6).OK) ∧
  (∀ k0_t1 : Fin (k0_t1_loop v4 v6).trips, ∀ a, (k0_off2 v4 v6 k0_t1) a + S1x2176.size a ≤ S408x2176.size a) ∧
  (∀ k0_t1 : Fin (k0_t1_loop v4 v6).trips, ∀ a, (k0_off3 v4 v6 k0_t1) a + S1.size a ≤ S408.size a) ∧
  ((k0_t2_loop v4 v6).OK) ∧
  (∀ k0_t2 : Fin (k0_t2_loop v4 v6).trips, ∀ a, (k0_off4 v4 v6 k0_t2) a + S1x2176.size a ≤ S408x2176.size a) ∧
  (∀ k0_t2 : Fin (k0_t2_loop v4 v6).trips, ∀ a, (k0_off5 v4 v6 k0_t2) a + S1.size a ≤ S408.size a)
theorem k0_t1_ok : ∀ (v4 : BitVec 32) (v6 : BitVec 32) (k0_hw1 : k0_chk1 v4 v6), (k0_t1_loop v4 v6).OK := fun v4 v6 k0_hw1 => k0_hw1.1
theorem k0_off2_inb : ∀ (v4 : BitVec 32) (v6 : BitVec 32) (k0_hw1 : k0_chk1 v4 v6) (k0_t1 : Fin (k0_t1_loop v4 v6).trips), ∀ a, (k0_off2 v4 v6 k0_t1) a + S1x2176.size a ≤ S408x2176.size a := fun v4 v6 k0_hw1 k0_t1 => k0_hw1.2.1 k0_t1
theorem k0_off3_inb : ∀ (v4 : BitVec 32) (v6 : BitVec 32) (k0_hw1 : k0_chk1 v4 v6) (k0_t1 : Fin (k0_t1_loop v4 v6).trips), ∀ a, (k0_off3 v4 v6 k0_t1) a + S1.size a ≤ S408.size a := fun v4 v6 k0_hw1 k0_t1 => k0_hw1.2.2.1 k0_t1
theorem k0_t2_ok : ∀ (v4 : BitVec 32) (v6 : BitVec 32) (k0_hw1 : k0_chk1 v4 v6), (k0_t2_loop v4 v6).OK := fun v4 v6 k0_hw1 => k0_hw1.2.2.2.1
theorem k0_off4_inb : ∀ (v4 : BitVec 32) (v6 : BitVec 32) (k0_hw1 : k0_chk1 v4 v6) (k0_t2 : Fin (k0_t2_loop v4 v6).trips), ∀ a, (k0_off4 v4 v6 k0_t2) a + S1x2176.size a ≤ S408x2176.size a := fun v4 v6 k0_hw1 k0_t2 => k0_hw1.2.2.2.2.1 k0_t2
theorem k0_off5_inb : ∀ (v4 : BitVec 32) (v6 : BitVec 32) (k0_hw1 : k0_chk1 v4 v6) (k0_t2 : Fin (k0_t2_loop v4 v6).trips), ∀ a, (k0_off5 v4 v6 k0_t2) a + S1.size a ≤ S408.size a := fun v4 v6 k0_hw1 k0_t2 => k0_hw1.2.2.2.2.2 k0_t2

def k0_cond2 (i : grid0.Coords) : BitVec 1 :=
  let arg0 : BitVec 32 := BitVec.ofNat 32 (i 0).val
  let c1427_i32 : BitVec 32 := 1427#32
  let v19 : BitVec 1 := Scalar.cmpi .eq arg0 c1427_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S408x2176 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S408x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x160 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S160x2176 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x160 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S68x32x160 : Shape := ⟨3, ![68, 32, 160]⟩
abbrev S68x32 : Shape := ⟨2, ![68, 32]⟩
abbrev S365568x160 : Shape := ⟨2, ![365568, 160]⟩
abbrev S365568 : Shape := ⟨1, ![365568]⟩
abbrev S408 : Shape := ⟨1, ![408]⟩
abbrev S68x408x32 : Shape := ⟨3, ![68, 408, 32]⟩
abbrev S68x408 : Shape := ⟨2, ![68, 408]⟩
abbrev S_ : Shape := ⟨0, ![]⟩
abbrev S1x408x1 : Shape := ⟨3, ![1, 408, 1]⟩
abbrev S68x408x32x1 : Shape := ⟨4, ![68, 408, 32, 1]⟩
abbrev S68x408x32x160 : Shape := ⟨4, ![68, 408, 32, 160]⟩
abbrev S68x32x1 : Shape := ⟨3, ![68, 32, 1]⟩
abbrev S68x408x1x1 : Shape := ⟨4, ![68, 408, 1, 1]⟩
abbrev S68x1x32x160 : Shape := ⟨4, ![68, 1, 32, 160]⟩
abbrev S887808 : Shape := ⟨1, ![887808]⟩
abbrev S887808x160 : Shape := ⟨2, ![887808, 160]⟩
abbrev S887808x1 : Shape := ⟨2, ![887808, 1]⟩

abbrev nBuf : Space → Nat
  | .hbm => 63
  | .vmem => 4
  | .smem => 0
  | _ => 0

abbrev bufTy : (tb : Table) → Fin (tcTables nBuf tb) → BufTy
  | .hbm, ⟨0, _⟩ => ⟨S68x32x160, .fp8e4m3⟩
  | .hbm, ⟨1, _⟩ => ⟨S68x32, .f32⟩
  | .hbm, ⟨2, _⟩ => ⟨S365568x160, .fp8e4m3⟩
  | .hbm, ⟨3, _⟩ => ⟨S365568, .f32⟩
  | .hbm, ⟨4, _⟩ => ⟨S408, .i32⟩
  | .hbm, ⟨5, _⟩ => ⟨S68x408x32, .i32⟩
  | .hbm, ⟨6, _⟩ => ⟨S68x408, .bf16⟩
  | .hbm, ⟨7, _⟩ => ⟨S68x32x160, .f32⟩
  | .hbm, ⟨8, _⟩ => ⟨S365568x160, .bf16⟩
  | .hbm, ⟨9, _⟩ => ⟨S_, .i32⟩
  | .hbm, ⟨10, _⟩ => ⟨S_, .i32⟩
  | .hbm, ⟨11, _⟩ => ⟨S408, .i32⟩
  | .hbm, ⟨12, _⟩ => ⟨S408, .i32⟩
  | .hbm, ⟨13, _⟩ => ⟨S1x408x1, .i32⟩
  | .hbm, ⟨14, _⟩ => ⟨S68x408x32, .i32⟩
  | .hbm, ⟨15, _⟩ => ⟨S68x408x32, .i32⟩
  | .hbm, ⟨16, _⟩ => ⟨S_, .i32⟩
  | .hbm, ⟨17, _⟩ => ⟨S68x408x32, .i32⟩
  | .hbm, ⟨18, _⟩ => ⟨S68x408x32, .i1⟩
  | .hbm, ⟨19, _⟩ => ⟨S_, .i32⟩
  | .hbm, ⟨20, _⟩ => ⟨S68x408x32, .i32⟩
  | .hbm, ⟨21, _⟩ => ⟨S68x408x32, .i32⟩
  | .hbm, ⟨22, _⟩ => ⟨S68x408x32, .i32⟩
  | .hbm, ⟨23, _⟩ => ⟨S68x408x32x1, .i32⟩
  | .hbm, ⟨24, _⟩ => ⟨S68x408x32x160, .bf16⟩
  | .hbm, ⟨25, _⟩ => ⟨S_, .i32⟩
  | .hbm, ⟨26, _⟩ => ⟨S68x408x32, .i32⟩
  | .hbm, ⟨27, _⟩ => ⟨S68x408x32, .i1⟩
  | .hbm, ⟨28, _⟩ => ⟨S_, .i32⟩
  | .hbm, ⟨29, _⟩ => ⟨S68x408x32, .i32⟩
  | .hbm, ⟨30, _⟩ => ⟨S68x408x32, .i32⟩
  | .hbm, ⟨31, _⟩ => ⟨S68x408x32, .i32⟩
  | .hbm, ⟨32, _⟩ => ⟨S68x408x32x1, .i32⟩
  | .hbm, ⟨33, _⟩ => ⟨S68x408x32, .f32⟩
  | .hbm, ⟨34, _⟩ => ⟨S68x408x32, .bf16⟩
  | .hbm, ⟨35, _⟩ => ⟨S68x408x32x1, .bf16⟩
  | .hbm, ⟨36, _⟩ => ⟨S68x408x32x160, .bf16⟩
  | .hbm, ⟨37, _⟩ => ⟨S68x408x32x160, .bf16⟩
  | .hbm, ⟨38, _⟩ => ⟨S68x32x160, .f32⟩
  | .hbm, ⟨39, _⟩ => ⟨S68x32x160, .bf16⟩
  | .hbm, ⟨40, _⟩ => ⟨S68x32x1, .f32⟩
  | .hbm, ⟨41, _⟩ => ⟨S68x32x160, .f32⟩
  | .hbm, ⟨42, _⟩ => ⟨S68x32x160, .f32⟩
  | .hbm, ⟨43, _⟩ => ⟨S68x408, .f32⟩
  | .hbm, ⟨44, _⟩ => ⟨S68x408x1x1, .f32⟩
  | .hbm, ⟨45, _⟩ => ⟨S68x1x32x160, .f32⟩
  | .hbm, ⟨46, _⟩ => ⟨S68x408x32x160, .f32⟩
  | .hbm, ⟨47, _⟩ => ⟨S68x408x32x160, .f32⟩
  | .hbm, ⟨48, _⟩ => ⟨S68x408x32x160, .f32⟩
  | .hbm, ⟨49, _⟩ => ⟨S_, .f32⟩
  | .hbm, ⟨50, _⟩ => ⟨S365568x160, .f32⟩
  | .hbm, ⟨51, _⟩ => ⟨S887808, .i32⟩
  | .hbm, ⟨52, _⟩ => ⟨S887808x160, .f32⟩
  | .hbm, ⟨53, _⟩ => ⟨S_, .i32⟩
  | .hbm, ⟨54, _⟩ => ⟨S887808, .i32⟩
  | .hbm, ⟨55, _⟩ => ⟨S887808, .i1⟩
  | .hbm, ⟨56, _⟩ => ⟨S_, .i32⟩
  | .hbm, ⟨57, _⟩ => ⟨S887808, .i32⟩
  | .hbm, ⟨58, _⟩ => ⟨S887808, .i32⟩
  | .hbm, ⟨59, _⟩ => ⟨S887808, .i32⟩
  | .hbm, ⟨60, _⟩ => ⟨S887808x1, .i32⟩
  | .hbm, ⟨61, _⟩ => ⟨S365568x160, .f32⟩
  | .hbm, ⟨62, _⟩ => ⟨S365568x160, .bf16⟩
  | .local _ .vmem, ⟨0, _⟩ => ⟨S68x32x160, .fp8e4m3⟩
  | .local _ .vmem, ⟨1, _⟩ => ⟨S365568x160, .fp8e4m3⟩
  | .local _ .vmem, ⟨2, _⟩ => ⟨S68x32x160, .f32⟩
  | .local _ .vmem, ⟨3, _⟩ => ⟨S365568x160, .bf16⟩
  | _, _ => ⟨S68x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_call0_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S68x32x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S365568x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S68x32x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S365568x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KLoop.lean ====
/-
  The body of the kernel at one grid point, run once: what it leaves in its two scratch accumulators and its two
  result blocks, as functions of what it reads. Everything here holds for any reading of the floating-point operations.
-/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import Idealize.ShloMosaic.Lib.Tactic
public import Idealize.ShloMosaic.Lib.WordCmp
public import Idealize.ShloMosaic.Lib.LoopRemainder

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes, as functions of the contents it reads -/

/-- The grid coordinate as the word the body computes with. -/
abbrev gw (i : grid0.Coords) : BitVec 32 := BitVec.ofNat 32 (i 0).val

/-- The condition of the body's first branch (the first grid point), as the body computes it. -/
abbrev cond1 (i : grid0.Coords) : BitVec 1 := Scalar.cmpi .ne (Scalar.extui (Scalar.cmpi .eq (gw i) 0#32)) 0#32

/-- The one element of a one-element rectangle. -/
abbrev one0 : S1.Idx := Shape.Idx.first (numel1_S1.symm ▸ Nat.one_pos)

/-- The word of a table of 1428 words at the grid point. -/
abbrev wordAt (i : grid0.Coords) (x : Vec F S1428 .i32) : Elt F .i32 :=
  View.ld x (Rect.unit (s := S1428) (k0_off1 i) S1.size (k0_off1_inb i)) one0

section Trip

variable (i : grid0.Coords) (v4 v6 : Elt F .i32) (hw : k0_chk1 v4 v6)
  (x3 : Vec F S408 .i32) (x4 : Vec F S408x2176 .i32) (x5 : Vec F S408x2176 .f32)

/-- The row of positions a trip reads. -/
abbrev rowI (k : Fin (k0_t1_loop v4 v6).trips) : Vec F S1x2176 .i32 :=
  View.ld x4 (Rect.unit (s := S408x2176) (k0_off2 v4 v6 k) S1x2176.size (k0_off2_inb v4 v6 hw k))
/-- The row of weights a trip reads. -/
abbrev rowW (k : Fin (k0_t1_loop v4 v6).trips) : Vec F S1x2176 .f32 :=
  View.ld x5 (Rect.unit (s := S408x2176) (k0_off2 v4 v6 k) S1x2176.size (k0_off2_inb v4 v6 hw k))
/-- The start word a trip reads. -/
abbrev startW (k : Fin (k0_t1_loop v4 v6).trips) : Elt F .i32 :=
  View.ld x3 (Rect.unit (s := S408) (k0_off3 v4 v6 k) S1.size (k0_off3_inb v4 v6 hw k)) one0

/-- What a trip stores into the document block's accumulator, from what it holds. -/
abbrev ddStep (x12 : Vec F S2176x160 .bf16) (k : Fin (k0_t1_loop v4 v6).trips) (d : Vec F S256x160 .f32) : Vec F S256x160 .f32 :=
  k0_pay9 (gw i) (rowI v4 v6 hw x4 k) (rowW v4 v6 hw x5 k) (startW v4 v6 hw x3 k) d x12
/-- What a trip stores into the query accumulator, from what it holds. -/
abbrev accStep (x8 : Vec F S256x160 .fp8e4m3) (x9 : Vec F S1x1x256 .f32) (k : Fin (k0_t1_loop v4 v6).trips) (a : Vec F S160x2176 .f32) : Vec F S160x2176 .f32 :=
  k0_pay4 (k0_pay10 (gw i) (rowI v4 v6 hw x4 k) (rowW v4 v6 hw x5 k) (startW v4 v6 hw x3 k) x8 x9 a)

/-- The document block's accumulator after the first `k` trips, from `d0`. -/
def ddV (x12 : Vec F S2176x160 .bf16) (d0 : Vec F S256x160 .f32) : ℕ → Vec F S256x160 .f32
  | 0 => d0
  | k + 1 => if h : k < (k0_t1_loop v4 v6).trips then ddStep i v4 v6 hw x3 x4 x5 x12 ⟨k, h⟩ (ddV x12 d0 k) else ddV x12 d0 k
/-- The query accumulator after the first `k` trips, from `a0`. -/
def accV (x8 : Vec F S256x160 .fp8e4m3) (x9 : Vec F S1x1x256 .f32) (a0 : Vec F S160x2176 .f32) : ℕ → Vec F S160x2176 .f32
  | 0 => a0
  | k + 1 => if h : k < (k0_t1_loop v4 v6).trips then accStep i v4 v6 hw x3 x4 x5 x8 x9 ⟨k, h⟩ (accV x8 x9 a0 k) else accV x8 x9 a0 k

end Trip

/-! ## The loop by its invariant -/

section Loop

variable (𝒱 : Variants) (c : Dev nD) (bd : Option 𝒱.V) (E : Set ℕ) (i : grid0.Coords)
variable (arg1 : Memref sig .tc .smem S1428 .i32) (harg1 : arg1.IsWhole) (arg2 : Memref sig .tc .smem S1428 .i32) (harg2 : arg2.IsWhole) (arg3 : Memref sig .tc .smem S408 .i32) (harg3 : arg3.IsWhole) (arg4 : Memref sig .tc .vmem S408x2176 .i32) (harg4 : arg4.IsWhole) (arg5 : Memref sig .tc .vmem S408x2176 .f32) (harg5 : arg5.IsWhole) (arg6 : Memref sig .tc .vmem S2176x160 .fp8e4m3) (harg6 : arg6.IsWhole) (arg7 : Memref sig .tc .vmem S2176x1 .f32) (harg7 : arg7.IsWhole) (arg8 : Memref sig .tc .vmem S256x160 .fp8e4m3) (harg8 : arg8.IsWhole) (arg9 : Memref sig .tc .vmem S1x1x256 .f32) (harg9 : arg9.IsWhole) (arg10 : Memref sig .tc .vmem S160x2176 .bf16) (harg10 : arg10.IsWhole) (arg11 : Memref sig .tc .vmem S256x160 .bf16) (harg11 : arg11.IsWhole) (arg12 : Memref sig .tc .vmem S2176x160 .bf16) (harg12 : arg12.IsWhole) (arg13 : Memref sig .tc .vmem S160x2176 .f32) (harg13 : arg13.IsWhole) (arg14 : Memref sig .tc .vmem S256x160 .f32) (harg14 : arg14.IsWhole)
variable (v4 v6 : Elt F .i32) (hw : k0_chk1 v4 v6)
variable (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X12 : BufTy.Contents (Elt F) arg12.view.ty)

/-- The whole rectangle of an accumulator. -/
abbrev rA : Rect S160x2176 := Rect.unit (s := S160x2176) ![0, 0] S160x2176.size inb_S160x2176_S160x2176_0_0
abbrev rD : Rect S256x160 := Rect.unit (s := S256x160) ![0, 0] S256x160.size inb_S256x160_S256x160_0_0
abbrev rQ : Rect S2176x160 := Rect.unit (s := S2176x160) ![0, 0] S2176x160.size inb_S2176x160_S2176x160_0_0
abbrev rS : Rect S1x1x256 := Rect.unit (s := S1x1x256) ![0, 0, 0] S1x1x256.size inb_S1x1x256_S1x1x256_0_0_0

/-- The raw contents of the query accumulator's buffer before trip `k`. -/
def rawA (G : BufTy.Contents (Elt F) arg13.view.ty) : ℕ → BufTy.Contents (Elt F) arg13.view.ty
  | 0 => G
  | k + 1 => if h : k < (k0_t1_loop v4 v6).trips then
      arg13.view.writes (Elt F) (rawA G k) [⟨rA, accStep i v4 v6 hw (arg3.view.read (Elt F) X3) (arg4.view.read (Elt F) X4) (arg5.view.read (Elt F) X5)
        (View.ld (arg8.view.read (Elt F) X8) rD) (View.ld (arg9.view.read (Elt F) X9) rS) ⟨k, h⟩ (View.ld (arg13.view.read (Elt F) (rawA G k)) rA)⟩]
    else rawA G k
/-- The raw contents of the document block's accumulator before trip `k`. -/
def rawD (G : BufTy.Contents (Elt F) arg14.view.ty) : ℕ → BufTy.Contents (Elt F) arg14.view.ty
  | 0 => G
  | k + 1 => if h : k < (k0_t1_loop v4 v6).trips then
      arg14.view.writes (Elt F) (rawD G k) [⟨rD, ddStep i v4 v6 hw (arg3.view.read (Elt F) X3) (arg4.view.read (Elt F) X4) (arg5.view.read (Elt F) X5)
        (View.ld (arg12.view.read (Elt F) X12) rQ) ⟨k, h⟩ (View.ld (arg14.view.read (Elt F) (rawD G k)) rD)⟩]
    else rawD G k

/-- What the loop holds before trip `k`: what it reads, unchanged, and its two accumulators at the contents the first
    `k` trips leave. -/
abbrev inv1 (q : PosShare TreeShare) (G13 : BufTy.Contents (Elt F) arg13.view.ty) (G14 : BufTy.Contents (Elt F) arg14.view.ty) (k : ℕ) (_u : PUnit) : sProp 𝕄 :=
  iprop((arg3.view.loc (c : Thread nD τ) ↦[arg3.view.set]{q} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12)
    ∗ (∃ f, (arg13.view.loc (c : Thread nD τ) ↦[arg13.view.set]{fullShare} f) ∗ ⌜f = rawA i arg3 arg4 arg5 arg8 arg9 arg13 v4 v6 hw X3 X4 X5 X8 X9 G13 k⌝)
    ∗ (∃ f, (arg14.view.loc (c : Thread nD τ) ↦[arg14.view.set]{fullShare} f) ∗ ⌜f = rawD i arg3 arg4 arg5 arg12 arg14 v4 v6 hw X3 X4 X5 X12 G14 k⌝))

set_option maxHeartbeats 4000000 in
/-- One trip of the loop: its two stores, over what it finds. -/
theorem trip1 (q : PosShare TreeShare) (k : Fin (k0_t1_loop v4 v6).trips) (f13 : BufTy.Contents (Elt F) arg13.view.ty) (f14 : BufTy.Contents (Elt F) arg14.view.ty) :
    (iprop((arg3.view.loc (c : Thread nD τ) ↦[arg3.view.set]{q} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12)
      ∗ (arg13.view.loc (c : Thread nD τ) ↦[arg13.view.set]{fullShare} f13) ∗ (arg14.view.loc (c : Thread nD τ) ↦[arg14.view.set]{fullShare} f14)) : sProp 𝕄)
    ⊢ wp Idealize.ShloMosaic.frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 (gw i) v4 v6 hw k PUnit.unit)
      (fun _ => iprop((arg3.view.loc (c : Thread nD τ) ↦[arg3.view.set]{q} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12)
      ∗ (arg13.view.loc (c : Thread nD τ) ↦[arg13.view.set]{fullShare} arg13.view.writes (Elt F) f13 [⟨rA, accStep i v4 v6 hw (arg3.view.read (Elt F) X3) (arg4.view.read (Elt F) X4) (arg5.view.read (Elt F) X5)
        (View.ld (arg8.view.read (Elt F) X8) rD) (View.ld (arg9.view.read (Elt F) X9) rS) k (View.ld (arg13.view.read (Elt F) f13) rA)⟩])
      ∗ (arg14.view.loc (c : Thread nD τ) ↦[arg14.view.set]{fullShare} arg14.view.writes (Elt F) f14 [⟨rD, ddStep i v4 v6 hw (arg3.view.read (Elt F) X3) (arg4.view.read (Elt F) X4) (arg5.view.read (Elt F) X5)
        (View.ld (arg12.view.read (Elt F) X12) rQ) k (View.ld (arg14.view.read (Elt F) f14) rD)⟩]))) := by
  unfold k0_t1_body
  iintro ⟨H3, H4, H5, H8, H9, H12, H13, H14⟩
  sl_exec
  sl_step
  isplitl [H3]; · iexact H3
  isplitl [H4]; · iexact H4
  isplitl [H5]; · iexact H5
  isplitl [H8]; · iexact H8
  isplitl [H9]; · iexact H9
  isplitl [H12]; · iexact H12
  isplitl [H13]; · iexact H13
  iexact H14

set_option warn.classDefReducibility false in
/-- The loop by its invariant. -/
@[sl_loop] def loopInv1 (q : PosShare TreeShare) (G13 : BufTy.Contents (Elt F) arg13.view.ty) (G14 : BufTy.Contents (Elt F) arg14.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 (gw i) v4 v6 hw where
  inv := inv1 c i arg3 arg4 arg5 arg8 arg9 arg12 arg13 arg14 v4 v6 hw X3 X4 X5 X8 X9 X12 q G13 G14
  step k acc := by
    iintro ⟨H3, H4, H5, H8, H9, H12, ⟨%f13, H13, %h13⟩, ⟨%f14, H14, %h14⟩⟩
    iapply (wp_wand_r Idealize.ShloMosaic.frame (wpE (defs₀ (F := F)) 𝒱 (c : Thread nD τ) bd) E)
    isplitl [H3 H4 H5 H8 H9 H12 H13 H14]
    · iapply (trip1 𝒱 c bd E i arg1 harg1 arg2 harg2 arg3 harg3 arg4 harg4 arg5 harg5 arg6 harg6 arg7 harg7 arg8 harg8 arg9 harg9 arg10 harg10 arg11 harg11 arg12 harg12 arg13 harg13 arg14 harg14 v4 v6 hw X3 X4 X5 X8 X9 X12 q k f13 f14)
      isplitl [H3]; · iexact H3
      isplitl [H4]; · iexact H4
      isplitl [H5]; · iexact H5
      isplitl [H8]; · iexact H8
      isplitl [H9]; · iexact H9
      isplitl [H12]; · iexact H12
      isplitl [H13]; · iexact H13
      iexact H14
    · iintro %_ ⟨H3, H4, H5, H8, H9, H12, H13, H14⟩
      isplitl [H3]; · iexact H3
      isplitl [H4]; · iexact H4
      isplitl [H5]; · iexact H5
      isplitl [H8]; · iexact H8
      isplitl [H9]; · iexact H9
      isplitl [H12]; · iexact H12
      isplitl [H13]
      · iexists _; isplitl [H13]; · iexact H13
        ipureintro; rw [h13, rawA, dif_pos k.isLt]
      iexists _; isplitl [H14]; · iexact H14
      ipureintro; rw [h14, rawD, dif_pos k.isLt]

/-- One store through the whole rectangle reads back as its payload. -/
theorem read_one {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f [⟨Rect.unit off S.size inb, w⟩] (fun y => ⟨_, List.mem_singleton_self _, View.mem_set_unit_zero h inb y⟩)).trans
    (View.canon_unit_zero h inb w)

/-- What the query accumulator's buffer reads before trip `k`. -/
theorem read_rawA (G : BufTy.Contents (Elt F) arg13.view.ty) (k : ℕ) :
    arg13.view.read (Elt F) (rawA i arg3 arg4 arg5 arg8 arg9 arg13 v4 v6 hw X3 X4 X5 X8 X9 G k)
      = accV i v4 v6 hw (arg3.view.read (Elt F) X3) (arg4.view.read (Elt F) X4) (arg5.view.read (Elt F) X5) (arg8.view.read (Elt F) X8) (arg9.view.read (Elt F) X9) (arg13.view.read (Elt F) G) k := by
  induction k with
  | zero => rfl
  | succ k ih =>
    rw [rawA, accV]
    by_cases h : k < (k0_t1_loop v4 v6).trips
    · rw [dif_pos h, dif_pos h]
      refine (read_one _ _ (by decide) _ _).trans ?_
      rw [ih, View.ld_unit_zero (by decide), View.ld_unit_zero (by decide), View.ld_unit_zero (by decide)]
    · rw [dif_neg h, dif_neg h, ih]

/-- What the document block's accumulator reads before trip `k`. -/
theorem read_rawD (G : BufTy.Contents (Elt F) arg14.view.ty) (k : ℕ) :
    arg14.view.read (Elt F) (rawD i arg3 arg4 arg5 arg12 arg14 v4 v6 hw X3 X4 X5 X12 G k)
      = ddV i v4 v6 hw (arg3.view.read (Elt F) X3) (arg4.view.read (Elt F) X4) (arg5.view.read (Elt F) X5) (arg12.view.read (Elt F) X12) (arg14.view.read (Elt F) G) k := by
  induction k with
  | zero => rfl
  | succ k ih =>
    rw [rawD, ddV]
    by_cases h : k < (k0_t1_loop v4 v6).trips
    · rw [dif_pos h, dif_pos h]
      refine (read_one _ _ (by decide) _ _).trans ?_
      rw [ih, View.ld_unit_zero (by decide), View.ld_unit_zero (by decide)]
    · rw [dif_neg h, dif_neg h, ih]

end Loop

end Cert.Kernel.Hand

end
-- ==== Proof.KBody.lean ====
/-
  The body of the kernel at one grid point, run once. Everything here holds for any reading of the floating-point operations.
-/
module

public import proofs.«01_k».proof.Proof.KLoop

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body -/

/-- The query rows after the body: computed at the first point, kept at every other. -/
abbrev qfOut (i : grid0.Coords) (x6 : Vec F S2176x160 .fp8e4m3) (x7 : Vec F S2176x1 .f32) (x12 : Vec F S2176x160 .bf16) : Vec F S2176x160 .bf16 :=
  if cond1 i = 1#1 then k0_pay1 x6 x7 else x12
/-- The query accumulator as the loop finds it: zeroed at the first point, kept at every other. -/
abbrev accIn (i : grid0.Coords) (x13 : Vec F S160x2176 .f32) : Vec F S160x2176 .f32 :=
  if cond1 i = 1#1 then k0_pay2 else x13
/-- The query accumulator after the body. -/
abbrev accOut (i : grid0.Coords) (v4 v6 : Elt F .i32) (hw : k0_chk1 v4 v6) (x3 : Vec F S408 .i32) (x4 : Vec F S408x2176 .i32) (x5 : Vec F S408x2176 .f32)
    (x8 : Vec F S256x160 .fp8e4m3) (x9 : Vec F S1x1x256 .f32) (x13 : Vec F S160x2176 .f32) : Vec F S160x2176 .f32 :=
  accV i v4 v6 hw x3 x4 x5 x8 x9 (accIn i x13) (k0_t1_loop v4 v6).trips
/-- The document block's accumulator after the body. -/
abbrev ddOut (i : grid0.Coords) (v4 v6 : Elt F .i32) (hw : k0_chk1 v4 v6) (x3 : Vec F S408 .i32) (x4 : Vec F S408x2176 .i32) (x5 : Vec F S408x2176 .f32)
    (x12 : Vec F S2176x160 .bf16) : Vec F S256x160 .f32 :=
  ddV i v4 v6 hw x3 x4 x5 x12 k0_pay3 (k0_t1_loop v4 v6).trips

set_option maxHeartbeats 8000000 in
/-- The kernel body at a grid point, on whole buffers: the three tables at any share, the inputs and the scratch at the
    contents named, the two blocks it may write; it leaves the inputs as they were and the rest as the functions above say. -/
theorem sound_kernel (c : Dev nD) (E : Set ℕ) (q : PosShare TreeShare) (i : grid0.Coords) (arg1 : Memref sig .tc .smem S1428 .i32) (harg1 : arg1.IsWhole) (arg2 : Memref sig .tc .smem S1428 .i32) (harg2 : arg2.IsWhole) (arg3 : Memref sig .tc .smem S408 .i32) (harg3 : arg3.IsWhole) (arg4 : Memref sig .tc .vmem S408x2176 .i32) (harg4 : arg4.IsWhole) (arg5 : Memref sig .tc .vmem S408x2176 .f32) (harg5 : arg5.IsWhole) (arg6 : Memref sig .tc .vmem S2176x160 .fp8e4m3) (harg6 : arg6.IsWhole) (arg7 : Memref sig .tc .vmem S2176x1 .f32) (harg7 : arg7.IsWhole) (arg8 : Memref sig .tc .vmem S256x160 .fp8e4m3) (harg8 : arg8.IsWhole) (arg9 : Memref sig .tc .vmem S1x1x256 .f32) (harg9 : arg9.IsWhole) (arg10 : Memref sig .tc .vmem S160x2176 .bf16) (harg10 : arg10.IsWhole) (arg11 : Memref sig .tc .vmem S256x160 .bf16) (harg11 : arg11.IsWhole) (arg12 : Memref sig .tc .vmem S2176x160 .bf16) (harg12 : arg12.IsWhole) (arg13 : Memref sig .tc .vmem S160x2176 .f32) (harg13 : arg13.IsWhole) (arg14 : Memref sig .tc .vmem S256x160 .f32) (harg14 : arg14.IsWhole)
    (x1 : Vec F S1428 .i32) (x2 : Vec F S1428 .i32) (x3 : Vec F S408 .i32) (x4 : Vec F S408x2176 .i32) (x5 : Vec F S408x2176 .f32) (x6 : Vec F S2176x160 .fp8e4m3) (x7 : Vec F S2176x1 .f32) (x8 : Vec F S256x160 .fp8e4m3) (x9 : Vec F S1x1x256 .f32) (x10 : Vec F S160x2176 .bf16) (x12 : Vec F S2176x160 .bf16) (x13 : Vec F S160x2176 .f32) (hw : k0_chk1 (wordAt i x1) (wordAt i x2)) (K : PUnit → sProp 𝕄) :
    iprop(owns (c : Thread nD τ) arg1 q x1
        ∗ owns (c : Thread nD τ) arg2 q x2
        ∗ owns (c : Thread nD τ) arg3 q x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ (∃ d, owns (c : Thread nD τ) arg11 fullShare d)
        ∗ owns (c : Thread nD τ) arg12 fullShare x12
        ∗ owns (c : Thread nD τ) arg13 fullShare x13
        ∗ (∃ d, owns (c : Thread nD τ) arg14 fullShare d)
        ∗ (iprop(owns (c : Thread nD τ) arg1 q x1
        ∗ owns (c : Thread nD τ) arg2 q x2
        ∗ owns (c : Thread nD τ) arg3 q x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (if k0_cond2 i = 1#1 then k0_pay7 (accOut i (wordAt i x1) (wordAt i x2) hw x3 x4 x5 x8 x9 x13) else x10)
        ∗ owns (c : Thread nD τ) arg11 fullShare (k0_pay6 (ddOut i (wordAt i x1) (wordAt i x2) hw x3 x4 x5 (qfOut i x6 x7 x12)))
        ∗ owns (c : Thread nD τ) arg12 fullShare (qfOut i x6 x7 x12)
        ∗ owns (c : Thread nD τ) arg13 fullShare (accOut i (wordAt i x1) (wordAt i x2) hw x3 x4 x5 x8 x9 x13)
        ∗ (∃ d, owns (c : Thread nD τ) arg14 fullShare d)) -∗ K ⟨⟩))
      ⊢ wp Idealize.ShloMosaic.frame (wpE (defs₀ (F := F)) Variants.none c none) E (cc0_maxsim_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_maxsim_bwd_eq_skeleton]; unfold cc0_maxsim_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, Hk⟩
  subst hf1 hf2 hf3 hf4 hf5 hf6 hf7 hf8 hf9 hf10 hf12 hf13
  by_cases hc1 : cond1 i = 1#1 <;> by_cases hc2 : k0_cond2 i = 1#1
  all_goals
    simp only [qfOut, accOut, ddOut, accIn, hc1, hc2, if_true, if_false]
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      first
        | (guard_hyp hc2 : ¬ k0_cond2 i = 1#1; exact rfl)
        | exact (read_one _ _ (by decide) _ _).trans (congrArg k0_pay7 ((View.ld_unit_zero (by decide) _ _).trans
            ((read_rawA i arg3 arg4 arg5 arg8 arg9 arg13 _ _ hw f3 f4 f5 f8 f9 _ _).trans
              (by first | (guard_hyp hc1 : ¬ cond1 i = 1#1; exact rfl) | exact congrArg (fun a => accV i _ _ hw _ _ _ _ _ a _) (read_one _ _ (by decide) _ _)))))
    isplitl [H11]
    · iexists _; isplitr
      swap; · iexact H11
      ipureintro
      refine (read_one _ _ (by decide) _ _).trans (congrArg k0_pay6 ((View.ld_unit_zero (by decide) _ _).trans
        ((read_rawD i arg3 arg4 arg5 arg12 arg14 _ _ hw f3 f4 f5 _ _ _).trans ?_)))
      first
        | (guard_hyp hc1 : ¬ cond1 i = 1#1; exact congrArg₂ (fun a b => ddV i _ _ hw _ _ _ a b _) rfl (read_one _ _ (by decide) _ _))
        | exact congrArg₂ (fun a b => ddV i _ _ hw _ _ _ a b _) ((read_one _ _ (by decide) _ _).trans
            (congrArg₂ k0_pay1 (View.ld_unit_zero (by decide) _ _) (View.ld_unit_zero (by decide) _ _))) (read_one _ _ (by decide) _ _)
    isplitl [H12]
    · iexists _; isplitr
      swap; · iexact H12
      ipureintro
      first
        | (guard_hyp hc1 : ¬ cond1 i = 1#1; exact rfl)
        | exact (read_one _ _ (by decide) _ _).trans
            (congrArg₂ k0_pay1 (View.ld_unit_zero (by decide) _ _) (View.ld_unit_zero (by decide) _ _))
    isplitl [H13]
    · iexists _; isplitr
      swap; · iexact H13
      ipureintro
      refine (read_rawA i arg3 arg4 arg5 arg8 arg9 arg13 _ _ hw f3 f4 f5 f8 f9 _ _).trans ?_
      first | (guard_hyp hc1 : ¬ cond1 i = 1#1; exact rfl) | exact congrArg (fun a => accV i _ _ hw _ _ _ _ _ a _) (read_one _ _ (by decide) _ _)
    iexists _; iexists _; isplitr
    swap; · iexact H14
    ipureintro; rfl

end Cert.Kernel.Hand

end
-- ==== Proof.KTables.lean ====
/-
  The tables the kernel reads and the arrays its blocks are cut from, as the host lines before it leave them; the two
  tables of counts are numbers of documents, so what the body assumes of them holds for every input.
-/
module

public import proofs.«01_k».proof.Proof.Gen.Kernel.Launch
public import Idealize.ShloMosaic.Lib.Tactic
public import Idealize.ShloMosaic.Lib.Claim
public import Idealize.ShloMosaic.Lib.WordCmp
public import Idealize.ShloMosaic.Lib.LoopRemainder
public import Idealize.ShloMosaic.Lib.IndicatorCount
public import Idealize.ShloMosaic.Lib.StableHlo.ReadAt
public import Idealize.ShloMosaic.Lib.Pipeline.FrameSuffix
public import Idealize.ShloMosaic.Lib.ValueIdx
public import Idealize.ShloMosaic.Lib.Affine

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

/-- The host lines before the kernel. -/
abbrev preOps : List (List (HloOp τ sig (Elt F))) := [hostOps0, hostOps0_1, hostOps0_2, hostOps0_3, hostOps0_4, hostOps0_5]
/-- What every buffer holds when the kernel is entered: the launch contents after the host lines before it. -/
abbrev V0 (c : Dev nD) : Valuation τ sig (Elt F) := StableHlo.after (List.flatten preOps) (fun b => m (c, b))
/-- The same read at a reference. -/
abbrev V (c : Dev nD) (b : Ref sig .tc) : Buf (Elt F) ((c : Thread nD τ).loc b) := V0 m c (Proc.devRef .tc b)

/-- The running sums of the document lengths. -/
abbrev cumW (x : S408.Idx → BitVec 32) : S408.Idx → BitVec 32 :=
  Host.reduceWindow IntOp.addi ![408] ![1] ![407] ![0] x (broadcastInDim S_ ![] bcast_S_S_ (constantI S_ 32 0#32)) reduceWindows_S408_S408_w408s1p407_0 h_S_

/-- The lengths of the documents, as the launch memory holds them. -/
abbrev lensW (c : Dev nD) : S408.Idx → BitVec 32 := m ((c : Thread nD τ).loc main_arg4)

/-- The table of document starts holds the running sums less the lengths. -/
theorem V_start (c : Dev nD) : (V m c main_v1 : S408.Idx → BitVec 32) = fun d => cumW (lensW m c) d - lensW m c d := by
  funext d
  unfold V V0 preOps
  simp only [List.flatten_cons, List.flatten_nil, List.append_nil, List.cons_append, List.nil_append]
  after_reads_simp
  simp -implicitDefEqProofs only [StableHlo.TRef.toBuf, StableHlo.TRef.ofBuf, cast_cast, cast_eq]
  rfl

/-- How many documents' words stand in a relation to a grid point's word. -/
def countN (p : CmpIPredicate) (x : S408.Idx → BitVec 32) (y : BitVec 32) : ℕ :=
  (Finset.univ.filter fun d : Fin 408 => IntOp.cmpi p (x (ix1 d)) y = 1#1).card

theorem countN_le (p : CmpIPredicate) (x : S408.Idx → BitVec 32) (y : BitVec 32) : countN p x y ≤ 408 :=
  (Finset.card_le_univ _).trans (by simp)

/-- The host's table of counts, at a grid point, is that number. -/
theorem reduce_count (p : CmpIPredicate) (x : S408.Idx → BitVec 32) (y : S1428.Idx → BitVec 32) :
    Host.reduce IntOp.addi
      (extui 32 (cmpi p (broadcastInDim S408x1428 ![0, 1] bcast_S408x1_S408x1428_0_1 (broadcastInDim S408x1 ![0] bcast_S408_S408x1_0 x))
        (broadcastInDim S408x1428 ![0, 1] bcast_S1x1428_S408x1428_0_1 (broadcastInDim S1x1428 ![1] bcast_S1428_S1x1428_1 y))) natLt_1_32)
      (constantI S_ 32 0#32) reducesTo_S408x1428_S1428_d0 h_S_ = fun j => BitVec.ofNat 32 (countN p x (y j)) := by
  funext j
  rw [Host.reduce_eq_fold_single _ _ _ _ (by decide : S408x1428.Reduces [0] S1428)]
  unfold countN
  refine Eq.trans ?_ (IndicatorCount.fold_addi_setWidth_eq_card (w := 32) (fun d : Fin 408 => IntOp.cmpi p (x (ix1 d)) (y j)) Finset.univ)
  refine congrArg (fun f => Finset.fold IntOp.addi (0#32) f (Finset.univ : Finset (Fin 408))) (funext fun d => ?_)
  refine congrArg₂ (fun a b => (IntOp.cmpi p (x a) (y b)).setWidth 32) (funext fun a => ?_) (funext fun a => ?_)
  · fin_cases a; rfl
  · fin_cases a; rfl

/-- The first table: how many documents end at or before the grid point's block. -/
theorem V_first (c : Dev nD) : (V m c main_v5 : S1428.Idx → BitVec 32)
    = fun j => BitVec.ofNat 32 (countN .sle (cumW (lensW m c)) (BitVec.ofNat 32 (j 0).val * 256#32)) := by
  unfold V V0 preOps
  simp only [List.flatten_cons, List.flatten_nil, List.append_nil, List.cons_append, List.nil_append]
  after_reads_simp
  simp -implicitDefEqProofs only [StableHlo.TRef.toBuf, StableHlo.TRef.ofBuf, cast_cast, cast_eq]
  exact reduce_count .sle _ _

/-- The second table: how many documents start before the end of the grid point's block. -/
theorem V_last (c : Dev nD) : (V m c main_v8 : S1428.Idx → BitVec 32)
    = fun j => BitVec.ofNat 32 (countN .slt (fun d => cumW (lensW m c) d - lensW m c d) (BitVec.ofNat 32 (j 0).val * 256#32 + 256#32)) := by
  unfold V V0 preOps
  simp only [List.flatten_cons, List.flatten_nil, List.append_nil, List.cons_append, List.nil_append]
  after_reads_simp
  simp -implicitDefEqProofs only [StableHlo.TRef.toBuf, StableHlo.TRef.ofBuf, cast_cast, cast_eq]
  exact reduce_count .slt _ _

/-! ## What the body assumes of two counts -/

/-- The loop runs from the first word to the second by ones. -/
theorem t1_loop_eq (v4 v6 : BitVec 32) : k0_t1_loop v4 v6 = ⟨v4, v6, 1#32⟩ := by
  unfold k0_t1_loop
  simp only [Scalar.muli_divsi_one]
  have : Scalar.addi v4 (Scalar.subi v6 v4) = v6 := by
    show v4 + (v6 - v4) = v6
    rw [BitVec.add_comm, BitVec.sub_add_cancel]
  rw [this]

theorem toInt_small (a : ℕ) (ha : a ≤ 408) : (BitVec.ofNat 32 a).toInt = a := WordCmp.toInt_ofNat_of_lt (by omega)

theorem t1_trips (a b : ℕ) (ha : a ≤ 408) (hb : b ≤ 408) : (k0_t1_loop (BitVec.ofNat 32 a) (BitVec.ofNat 32 b)).trips = b - a := by
  rw [t1_loop_eq]
  show Scf.trips _ _ _ = _
  unfold Scf.trips
  rw [toInt_small a ha, toInt_small b hb, show (1#32 : BitVec 32).toInt = 1 from by decide]
  omega

theorem iv_word (a k : ℕ) : Scf.iv (BitVec.ofNat 32 a) 1#32 k = BitVec.ofNat 32 (a + k) := by
  unfold Scf.iv; rw [BitVec.mul_one, BitVec.ofNat_add]

theorem iv_toNat (a k : ℕ) (h : a + k ≤ 408) : (Scalar.indexCast (Scf.iv (BitVec.ofNat 32 a) 1#32 k)).toNat = a + k := by
  rw [iv_word]
  show (BitVec.ofNat 32 (a + k)).toNat = _
  exact WordCmp.toNat_ofNat_of_lt (by omega)

/-- Of two counts of documents everything the body assumes of its loop bounds holds. -/
theorem chk1_of (a b : ℕ) (ha : a ≤ 408) (hb : b ≤ 408) : k0_chk1 (BitVec.ofNat 32 a) (BitVec.ofNat 32 b) := by
  have hk : ∀ k : Fin (k0_t1_loop (BitVec.ofNat 32 a) (BitVec.ofNat 32 b)).trips, a + k.val < 408 := fun k => by
    have := lt_of_lt_of_eq k.isLt (t1_trips a b ha hb); omega
  refine ⟨?_, ?_, ?_, Scf.rem_ok _ _, fun k => (Scf.rem_no_trip _ _ k).elim, fun k => (Scf.rem_no_trip _ _ k).elim⟩
  · rw [t1_loop_eq]
    refine ⟨(by decide : 0 < (1#32 : BitVec 32).toInt), ?_⟩
    have : Scf.trips (BitVec.ofNat 32 a) (BitVec.ofNat 32 b) 1#32 = b - a := by
      have := t1_trips a b ha hb; rwa [t1_loop_eq] at this
    show (BitVec.ofNat 32 a).toInt + (Scf.trips (BitVec.ofNat 32 a) (BitVec.ofNat 32 b) 1#32 : ℤ) * (1#32 : BitVec 32).toInt < 2 ^ 31
    rw [this, toInt_small a ha, show (1#32 : BitVec 32).toInt = 1 from by decide]
    omega
  · intro k x
    have h := hk k
    have e : (Scalar.indexCast (Scf.iv (BitVec.ofNat 32 a) 1#32 k.val)).toNat = a + k.val := iv_toNat a k.val (by omega)
    fin_cases x
    · show (Scalar.indexCast (Scf.iv (BitVec.ofNat 32 a) 1#32 k.val)).toNat + 1 ≤ 408
      omega
    · exact le_refl 2176
  · intro k x
    have h := hk k
    have e : (Scalar.indexCast (Scf.iv (BitVec.ofNat 32 a) 1#32 k.val)).toNat = a + k.val := iv_toNat a k.val (by omega)
    fin_cases x
    show (Scalar.indexCast (Scf.iv (BitVec.ofNat 32 a) 1#32 k.val)).toNat + 1 ≤ 408
    omega

end Cert.Kernel.Hand

end
-- ==== Proof.KFrame.lean ====
/-
  The kernel's pipeline run: what its scratch holds before every grid point, what it leaves in its result blocks, and the
  run of the whole program, from any memory: it ends, its arguments unchanged and every counter at zero. Everything here
  holds for any reading of the floating-point operations.
-/
module

public import proofs.«01_k».proof.Proof.KBody
public import proofs.«01_k».proof.Proof.KTables

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables and the blocks -/

/-- The tables the pipeline is entered with. -/
def tbl : (pre0).Contents (Elt F) := fun k => V m 0 (pre0.ref k)
/-- They are admissible: the pipeline asks nothing of them. -/
def adm : (p : Fin 1) → (pcfgs (F := F) p).Adm := fun _ => ⟨tbl m, trivial⟩

/-- The pipeline at these tables. -/
abbrev cfgA : Cfg sig Λ₀ := cfg0 (adm m 0)

/-- The current staging memref of each window at a point. -/
abbrev st0 (t : Fin (cfgA m).N) := ((cfgA m).win 0).stage ((cfgA m).slots t 0)
abbrev st1 (t : Fin (cfgA m).N) := ((cfgA m).win 1).stage ((cfgA m).slots t 1)
abbrev st2 (t : Fin (cfgA m).N) := ((cfgA m).win 2).stage ((cfgA m).slots t 2)
abbrev st3 (t : Fin (cfgA m).N) := ((cfgA m).win 3).stage ((cfgA m).slots t 3)
abbrev st4 (t : Fin (cfgA m).N) := ((cfgA m).win 4).stage ((cfgA m).slots t 4)
abbrev st5 (t : Fin (cfgA m).N) := ((cfgA m).win 5).stage ((cfgA m).slots t 5)
abbrev st6 (t : Fin (cfgA m).N) := ((cfgA m).win 6).stage ((cfgA m).slots t 6)
abbrev st7 (t : Fin (cfgA m).N) := ((cfgA m).win 7).stage ((cfgA m).slots t 7)

/-- The kernel body at a point, on what the pipeline calls it with. -/
abbrev bodyAt (t : Fin (cfgA m).N) : Prog (TpuEff nD τ sig (Elt F) Λ₀ .tc) PUnit :=
  cc0_maxsim_bwd (grid0.coords t) (Memref.whole main_v5) (Memref.isWhole_whole _) (Memref.whole main_v8) (Memref.isWhole_whole _) (Memref.whole main_v1) (Memref.isWhole_whole _)
    (spec0_0.stage ((cfgA m).slots t 0)) (hstage0_0 (((cfgA m).slots t 0).cast nbuf0_0)) (spec0_1.stage ((cfgA m).slots t 1)) (hstage0_1 (((cfgA m).slots t 1).cast nbuf0_1))
    (spec0_2.stage ((cfgA m).slots t 2)) (hstage0_2 (((cfgA m).slots t 2).cast nbuf0_2)) (spec0_3.stage ((cfgA m).slots t 3)) (hstage0_3 (((cfgA m).slots t 3).cast nbuf0_3))
    (spec0_4.stage ((cfgA m).slots t 4)) (hstage0_4 (((cfgA m).slots t 4).cast nbuf0_4)) (spec0_5.stage ((cfgA m).slots t 5)) (hstage0_5 (((cfgA m).slots t 5).cast nbuf0_5))
    (spec0_6.stage ((cfgA m).slots t 6)) (hstage0_6 (((cfgA m).slots t 6).cast nbuf0_6)) (spec0_7.stage ((cfgA m).slots t 7)) (hstage0_7 (((cfgA m).slots t 7).cast nbuf0_7))
    (Memref.whole cc0_scratch0) (Memref.isWhole_whole _) (Memref.whole cc0_scratch1) (Memref.isWhole_whole _) (Memref.whole cc0_scratch2) (Memref.isWhole_whole _)

/-- A window's block at a point, read off its array as the pipeline finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- An input window's current buffer holds its block at every point. -/
theorem before0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgA m) c) (hA : dat.A 5 = V m c (Pipeline.arrRef spec0 5))
    (hafter : ∀ t, dat.after 5 t = iblk m c 5 t) (t : Fin (cfgA m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the scratch holds -/

/-- The tables the body reads, on core `c`. -/
abbrev x1 (c : Dev nD) : Vec F S1428 .i32 := V m c main_v5
abbrev x2 (c : Dev nD) : Vec F S1428 .i32 := V m c main_v8
abbrev x3 (c : Dev nD) : Vec F S408 .i32 := V m c main_v1

/-- What the body assumes of the two words it reads holds at every point. -/
theorem hwAt (c : Dev nD) (i : grid0.Coords) : k0_chk1 (wordAt i (x1 m c)) (wordAt i (x2 m c)) := by
  unfold wordAt x1 x2
  rw [show (V m c main_v5 : Vec F S1428 .i32) = _ from V_first m c, show (V m c main_v8 : Vec F S1428 .i32) = _ from V_last m c]
  exact chk1_of _ _ (countN_le _ _ _) (countN_le _ _ _)

/-- The query rows, as the body computes them at the first point. -/
def qfV (c : Dev nD) : Vec F S2176x160 .bf16 :=
  k0_pay1 (iblk m c 2 ⟨0, Nat.lt_of_lt_of_eq (by norm_num) N_0.symm⟩) (iblk m c 3 ⟨0, Nat.lt_of_lt_of_eq (by norm_num) N_0.symm⟩)

/-- The query accumulator before each point. -/
def accAt (c : Dev nD) : ℕ → Vec F S160x2176 .f32
  | 0 => k0_pay2
  | t + 1 => if h : t < (cfgA m).N then
      accV (grid0.coords ⟨t, h⟩) (wordAt (grid0.coords ⟨t, h⟩) (x1 m c)) (wordAt (grid0.coords ⟨t, h⟩) (x2 m c)) (hwAt m c (grid0.coords ⟨t, h⟩)) (x3 m c) (iblk m c 0 ⟨t, h⟩) (iblk m c 1 ⟨t, h⟩) (iblk m c 4 ⟨t, h⟩) (iblk m c 5 ⟨t, h⟩) (accAt c t)
        (k0_t1_loop (wordAt (grid0.coords ⟨t, h⟩) (x1 m c)) (wordAt (grid0.coords ⟨t, h⟩) (x2 m c))).trips
    else accAt c t

/-- The document block's accumulator after the body at a point. -/
def ddAt (c : Dev nD) (t : Fin (cfgA m).N) : Vec F S256x160 .f32 :=
  ddOut (grid0.coords t) (wordAt (grid0.coords t) (x1 m c)) (wordAt (grid0.coords t) (x2 m c)) (hwAt m c (grid0.coords t)) (x3 m c) (iblk m c 0 t) (iblk m c 1 t) (qfV m c)

/-- The invariant before a point: the tables at the share the pipeline lends, the generator register, and the scratch,
    whose first two buffers hold the query rows and the accumulator from the second point on. -/
def Inv (c : Dev nD) (j : ℕ) : sProp 𝕄 :=
  iprop(Pipeline.ΦT pre0 (tbl m) c ∗ (∃ r, prngReg c r)
    ∗ (∃ f, ((c : Thread nD τ).loc cc0_scratch0 ↦{fullShare} f) ∗ ⌜j ≠ 0 → f = qfV m c⌝)
    ∗ (∃ f, ((c : Thread nD τ).loc cc0_scratch1 ↦{fullShare} f) ∗ ⌜j ≠ 0 → f = accAt m c j⌝)
    ∗ (∃ f : Buf (Elt F) ((c : Thread nD τ).loc cc0_scratch2), ((c : Thread nD τ).loc cc0_scratch2 ↦{fullShare} f)))

/-! ## The pipeline's proof data -/

/-- The arrays as the pipeline finds them; after the body at a point each input's buffer at its block, the two results'
    at the functions above; nothing owed; full shares. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (accAt m c (t.val + 1))
    | ⟨7, _⟩ => k0_pay6 (ddAt m c t)
  Φ j := Inv m c j.val
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = iblk m c 4 t := by dsimp only [dats]; rfl
theorem after5 (c : Dev nD) (t : Fin (cfgA m).N) : (dats m 0 c).after 5 t = iblk m c 5 t := by dsimp only [dats]; rfl
theorem after6 (c : Dev nD) (t : Fin (cfgA m).N) : (dats m 0 c).after 6 t = k0_pay7 (accAt m c (t.val + 1)) := by dsimp only [dats]; rfl
theorem after7 (c : Dev nD) (t : Fin (cfgA m).N) : (dats m 0 c).after 7 t = k0_pay6 (ddAt m c t) := by dsimp only [dats]; rfl

theorem before0 (c : Dev nD) (t : Fin (cfgA m).N) (d) : (dats m 0 c).before 0 t d = iblk m c 0 t := before0_of m (dats m 0 c) (A_eq m c 0) (after0 m c) t d
theorem before1 (c : Dev nD) (t : Fin (cfgA m).N) (d) : (dats m 0 c).before 1 t d = iblk m c 1 t := before1_of m (dats m 0 c) (A_eq m c 1) (after1 m c) t d
theorem before2 (c : Dev nD) (t : Fin (cfgA m).N) (d) : (dats m 0 c).before 2 t d = iblk m c 2 t := before2_of m (dats m 0 c) (A_eq m c 2) (after2 m c) t d
theorem before3 (c : Dev nD) (t : Fin (cfgA m).N) (d) : (dats m 0 c).before 3 t d = iblk m c 3 t := before3_of m (dats m 0 c) (A_eq m c 3) (after3 m c) t d
theorem before4 (c : Dev nD) (t : Fin (cfgA m).N) (d) : (dats m 0 c).before 4 t d = iblk m c 4 t := before4_of m (dats m 0 c) (A_eq m c 4) (after4 m c) t d
theorem before5 (c : Dev nD) (t : Fin (cfgA m).N) (d) : (dats m 0 c).before 5 t d = iblk m c 5 t := before5_of m (dats m 0 c) (A_eq m c 5) (after5 m c) t d

/-! ## The grid's conditions -/

/-- The body's first branch is taken at the first point only. -/
theorem cond1_iff : ∀ t : Fin grid0.N, cond1 (grid0.coords t) = 1#1 ↔ t.val = 0 := by decide +kernel
/-- Its last branch is taken at the last point only. -/
theorem cond2_iff : ∀ t : Fin grid0.N, k0_cond2 (grid0.coords t) = 1#1 ↔ t.val = 1427 := by decide +kernel

/-- The first result's one block is written back at the last point only. -/
theorem flush6 (t : Fin (cfgA m).N) : ((cfgA m).win 6).flush t = true ↔ t.val % 1428 = 1427 :=
  Window.flush_const _ rfl (fun _ _ => rfl) N_0 rfl t

end Cert.Kernel.Hand

end
-- ==== Proof.KRun.lean ====
/-
  The kernel's pipeline run: what its scratch holds before every grid point, what it leaves in its result blocks, and the
  run of the whole program, from any memory: it ends, its arguments unchanged and every counter at zero. Everything here
  holds for any reading of the floating-point operations.
-/
module

public import proofs.«01_k».proof.Proof.KFrame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- The tables one by one. -/
theorem bigSep_T0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- The tables as the body holds them: whole, at the share the pipeline lends. -/
theorem tables_eq (c : Dev nD) : (Pipeline.ΦT pre0 (tbl m) c : sProp 𝕄)
    = iprop(owns (c : Thread nD τ) (Memref.whole main_v5) fullShare.right (x1 m c) ∗ owns (c : Thread nD τ) (Memref.whole main_v8) fullShare.right (x2 m c)
      ∗ owns (c : Thread nD τ) (Memref.whole main_v1) fullShare.right (x3 m c)) := by
  obtain rfl : c = 0 := Subsingleton.elim _ _
  unfold Pipeline.ΦT Pipeline.prefHeld
  rw [bigSep_T0, owns_whole, owns_whole, owns_whole]
  rfl

/-- What the body is called with at a point, the windows one by one, -/
def bodyPre (c : Dev nD) (t : Fin (cfgA m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d))
    ∗ (∃ d, owns (c : Thread nD τ) (st5 m t) fullShare ((dats m 0 c).before 5 t d))
    ∗ (∃ d, owns (c : Thread nD τ) (st6 m t) fullShare ((dats m 0 c).before 6 t d))
    ∗ (∃ d, owns (c : Thread nD τ) (st7 m t) fullShare ((dats m 0 c).before 7 t d)))

/-- and what it returns. -/
def bodyPost (c : Dev nD) (t : Fin (cfgA m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t)
    ∗ owns (c : Thread nD τ) (st5 m t) fullShare ((dats m 0 c).after 5 t)
    ∗ (dats m 0 c).leavesExact 6 t
    ∗ owns (c : Thread nD τ) (st7 m t) fullShare ((dats m 0 c).after 7 t))

/-- The query rows the body leaves in its scratch are the first point's. -/
theorem qfOut_eq (c : Dev nD) (t : Fin (cfgA m).N) (f : Vec F S2176x160 .bf16) (hf : t.val ≠ 0 → f = qfV m c) :
    qfOut (grid0.coords t) (iblk m c 2 t) (iblk m c 3 t) f = qfV m c := by
  unfold qfOut
  by_cases h : t.val = 0
  · rw [if_pos ((cond1_iff t).mpr h)]
    obtain rfl : t = ⟨0, Nat.lt_of_lt_of_eq (by norm_num) N_0.symm⟩ := Fin.ext h
    rfl
  · rw [if_neg fun e => h ((cond1_iff t).mp e)]; exact hf h

/-- The accumulator the body leaves in its scratch is the next point's. -/
theorem accOut_eq (c : Dev nD) (t : Fin (cfgA m).N) (f : Vec F S160x2176 .f32) (hf : t.val ≠ 0 → f = accAt m c t.val) :
    accOut (grid0.coords t) (wordAt (grid0.coords t) (x1 m c)) (wordAt (grid0.coords t) (x2 m c)) (hwAt m c (grid0.coords t)) (x3 m c) (iblk m c 0 t) (iblk m c 1 t)
      (iblk m c 4 t) (iblk m c 5 t) f = accAt m c (t.val + 1) := by
  have e : accIn (grid0.coords t) f = accAt m c t.val := by
    unfold accIn
    by_cases h : t.val = 0
    · rw [if_pos ((cond1_iff t).mpr h), h, accAt]
    · rw [if_neg fun e => h ((cond1_iff t).mp e)]; exact hf h
  unfold accOut
  rw [e, accAt, dif_pos t.isLt]

/-- The first result's block at a point that is not the last is handed back as it was found, -/
theorem leaves6_ne (c : Dev nD) (t : Fin (cfgA m).N) (h : t.val ≠ 1427) :
    (dats m 0 c).leavesExact 6 t = iprop(∃ d, owns (c : Thread nD τ) (st6 m t) fullShare ((dats m 0 c).before 6 t d)) := by
  refine (dats m 0 c).leavesExact_idle 6 t ?_ ?_
  · show (!(k0_cond2 (grid0.coords t) == 1#1)) = true
    rw [Bool.not_eq_true', beq_eq_false_iff_ne]
    exact fun e => h ((cond2_iff t).mp e)
  · rw [Bool.eq_false_iff]
    intro e
    have h1 := (flush6 m t).mp e
    have h2 : t.val < 1428 := Nat.lt_of_lt_of_eq t.isLt N_0
    omega
/-- and at the last point holds the accumulator, rounded. -/
theorem leaves6_last (c : Dev nD) (t : Fin (cfgA m).N) (h : t.val = 1427) :
    (dats m 0 c).leavesExact 6 t = owns (c : Thread nD τ) (st6 m t) fullShare (k0_pay7 (accAt m c (t.val + 1))) := by
  rw [← after6]
  unfold Dat.leavesExact
  rw [show (cfgA m).idle 6 ((cfgA m).grid.coords t) = false from by
    show (!(k0_cond2 (grid0.coords t) == 1#1)) = false
    rw [Bool.not_eq_false', beq_iff_eq]; exact (cond2_iff t).mpr h]

/-- So what the body leaves there is what the pipeline asks for. -/
theorem leaves6_of (c : Dev nD) (t : Fin (cfgA m).N) (d) :
    owns (c : Thread nD τ) (st6 m t) fullShare (if k0_cond2 (grid0.coords t) = 1#1 then (k0_pay7 (accAt m c (t.val + 1)) : Vec F S160x2176 .bf16) else (dats m 0 c).before 6 t d)
      ⊢ (dats m 0 c).leavesExact 6 t := by
  have this : ∀ X Y, X = Y → (owns (c : Thread nD τ) (st6 m t) fullShare X : sProp 𝕄) ⊢ owns (c : Thread nD τ) (st6 m t) fullShare Y := by
    rintro X _ rfl; exact .rfl
  by_cases h : t.val = 1427
  · rw [leaves6_last m c t h]
    exact this _ _ (if_pos ((cond2_iff t).mpr h))
  · rw [leaves6_ne m c t h]
    refine (this _ _ (if_neg fun e => h ((cond2_iff t).mp e))).trans ?_
    iintro H; iexists d; iexact H

set_option maxHeartbeats 1600000 in
/-- The body at any point: the inputs' buffers hold their blocks and the scratch what the invariant says, so the body's
    triple applies; it leaves the scratch as the invariant at the next point says. -/
theorem sound_body (c : Dev nD) (t : Fin (cfgA m).N) :
    bodyPre m c t ⊢ wp Idealize.ShloMosaic.frame (wpE (defs₀ (F := F)) Variants.none c none) Set.univ (bodyAt m t) (fun _ => bodyPost m c t) := by
  unfold bodyPre bodyPost bodyAt
  simp only [before0, before1, before2, before3, before4, before5]
  rw [show (dats m 0 c).Φ t.castSucc = Inv m c t.val from rfl, show (dats m 0 c).Φ t.succ = Inv m c (t.val + 1) from rfl,
    show (dats m 0 c).owesAt () t.succ = (dats m 0 c).owesAt () t.castSucc from rfl, after0, after1, after2, after3, after4, after5, after7]
  unfold Inv
  rw [tables_eq]
  simp only [← owns_whole]
  iintro ⟨⟨⟨T1, T2, T3⟩, Hg, ⟨%f0, S0, %e0⟩, ⟨%f1, S1, %e1⟩, ⟨%f2, S2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ fullShare.right (grid0.coords t) _ _ _ _ _ _ _ _ _ _ _ _ _ _ _ _ _ _ _ _ _ _ _ _ _ _ _ _
    (x1 m c) (x2 m c) (x3 m c) (iblk m c 0 t) (iblk m c 1 t) (iblk m c 2 t) (iblk m c 3 t) (iblk m c 4 t) (iblk m c 5 t) ((dats m 0 c).before 6 t d6) f0 f1 (hwAt m c (grid0.coords t)) _)
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexists _; iexact S2
  rw [qfOut_eq m c t f0 e0, accOut_eq m c t f1 e1]
  iintro ⟨T1, T2, T3, H0, H1, H2, H3, H4, H5, H6, H7, S0, S1, ⟨%f2', S2⟩⟩
  isplitl [T1 T2 T3 Hg S0 S1 S2]
  · isplitl [T1 T2 T3]
    · isplitl [T1]; · iexact T1
      isplitl [T2]; · iexact T2
      iexact T3
    isplitl [Hg]; · iexact Hg
    isplitl [S0]
    · iexists _; isplitl [S0]; · iexact S0
      ipureintro; exact fun _ => rfl
    isplitl [S1]
    · iexists _; isplitl [S1]; · iexact S1
      ipureintro; exact fun _ => rfl
    iexists _; iexact S2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6_of m c t d6); iexact H6
  iexact H7

/-- The body table's row at a point's slots is the body at that point. -/
theorem defs₀_row (t : Fin (cfgA m).N) :
    defs₀ (F := F) .tc (cfgA m).body ((cfgA m).bodyArgs t ((cfgA m).slots t)) = bodyAt m t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The host lines around the kernel -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 1600000 in
/-- The program is the host lines before the kernel, the kernel, and the host lines after it. -/
theorem hmain (𝒱₀ : Variants) : Pipeline.HMainPK (Ix := Unit) (Name := ℕ) (U := UR sig nD τ) (Lvl := ℕ) pcfgs 0 defs₀ 𝒱₀ m (main (F := F)) (fun c b => V0 m c (Proc.devRef .tc b))
      (fun _ => Pipeline.chain ([hostOps1].map StableHlo.seq)) :=
  Pipeline.hmainP_around pcfgs 0 defs₀ 𝒱₀ m main preOps [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The lines after the kernel touch no table, -/
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl
  all_goals
    intro k
    fin_cases k <;> simp only [StableHlo.unary_bufs, StableHlo.reshape_bufs, Finset.mem_insert, Finset.mem_singleton, not_or] <;>
      exact ⟨StableHlo.devRef_ne_of_ne (by decide), StableHlo.devRef_ne_of_ne (by decide)⟩
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and write no array of the pipeline. -/
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The run -/

/-- What the launch hands the pipeline is the invariant before the first point, -/
theorem inv_in (c : Dev nD) : iprop(Pipeline.ΦA spec0 c ∗ Pipeline.ΦT pre0 (tbl m) c) ⊢ (dats m 0 c).Φ 0 := by
  rw [show (dats m 0 c).Φ 0 = Inv m c 0 from rfl]
  unfold Inv Pipeline.ΦA
  rw [scopedRest0_eq]
  iintro ⟨⟨⟨⟨%f0, S0⟩, ⟨%f1, S1⟩, ⟨%f2, S2⟩⟩, Hg⟩, HT⟩
  isplitl [HT]; · iexact HT
  isplitl [Hg]; · iexact Hg
  isplitl [S0]
  · iexists f0; isplitl [S0]; · iexact S0
    ipureintro; exact fun h => absurd rfl h
  isplitl [S1]
  · iexists f1; isplitl [S1]; · iexact S1
    ipureintro; exact fun h => absurd rfl h
  iexists f2; iexact S2
/-- and the invariant after the last point holds what the launch takes back. -/
theorem inv_out (c : Dev nD) : (dats m 0 c).Φ (Fin.last (cfgA m).N) ⊢ Pipeline.ΦA spec0 c := by
  rw [show (dats m 0 c).Φ (Fin.last (cfgA m).N) = Inv m c (cfgA m).N from rfl]
  unfold Inv Pipeline.ΦA
  rw [scopedRest0_eq]
  iintro ⟨-, Hg, ⟨%f0, S0, -⟩, ⟨%f1, S1, -⟩, ⟨%f2, S2⟩⟩
  isplitr [Hg]
  · isplitl [S0]; · iexists f0; iexact S0
    isplitl [S1]; · iexists f1; iexact S1
    iexists f2; iexact S2
  iexact Hg

/-- What every buffer holds after the whole program, read at a reference. -/
abbrev W (c : Dev nD) (b : Ref sig .tc) : Buf (Elt F) ((c : Thread nD τ).loc b) := Pipeline.afterTail pcfgs (adm m) (dats m) 0 (V0 m) [hostOps1] c b

set_option backward.isDefEq.respectTransparency.types false in
set_option maxHeartbeats 1600000 in
/-- The run: it ends, the pipeline's arrays at what the proof data say, every other buffer as the host lines leave it, and
    every counter at zero. -/
theorem run_main_quiescent : θ_run defs (onTc (τ := τ) (main (F := F))) (s₀ m ρ)
    (fun r => Pipeline.FramePost (Pipeline.pin pcfgs (adm m)) (dats m) 0 (Pipeline.afterTail pcfgs (adm m) (dats m) 0 (V0 m) [hostOps1]) r ∧ r.2.sem = fun _ => 0) :=
  Pipeline.θ_run_frameP_around_track (Q' := _) pcfgs (adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun c k => by obtain rfl : c = 0 := Subsingleton.elim _ _; rfl)
    (hin := inv_in m) (hout := inv_out m)

end Cert.Kernel.Hand

end
-- ==== Proof.KQuiet.lean ====
/-
  The frame of the kernel: from any memory the program ends, its arguments unchanged and every counter at zero, at any
  reading of the floating-point operations.
-/
module

public import proofs.«01_k».proof.Proof.KRun

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host lines before the kernel write. -/
def preWritten : List (Ref sig .tc) := [main_call0_c, main_call0_v0, main_v0, main_v1, main_v2, main_c, main_v3, main_v4, main_call1_call0_v0, main_call1_call0_v1, main_call1_call0_v2, main_call1_call0_v3, main_call1_call0_v4, main_call1_call0_v5, main_call1_call0_c, main_v5, main_c_0, main_v6, main_v7, main_call2_call0_v0, main_call2_call0_v1, main_call2_call0_v2, main_call2_call0_v3, main_call2_call0_v4, main_call2_call0_v5, main_call2_call0_c, main_v8, main_v9, main_v10, main_v11, main_v12, main_v13, main_v14, main_v15, main_v16, main_v17]

set_option maxHeartbeats 1600000 in
/-- A buffer they do not write is found by the kernel as launched. -/
theorem V_of_not_written (c : Dev nD) (b : Ref sig .tc) (hb : b ∉ preWritten) : V m c b = m ((c : Thread nD τ).loc b) := by
  unfold V V0 preOps
  rw [StableHlo.after_of_forall_not_mem (b := Proc.devRef .tc b) _ _ (List.forall_iff_forall_mem.mp (by
      simp only [hostOps0, hostOps0_1, hostOps0_2, hostOps0_3, hostOps0_4, hostOps0_5, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by rintro rfl; exact hb (by decide))))]

/-- A buffer no host line and no window writes ends as launched. -/
theorem W_of_not_written (c : Dev nD) (b : Ref sig .tc) (hb : b ∉ preWritten) (h19 : b ≠ main_v19) (h20 : b ≠ main_v20) (hw : ∀ w, Pipeline.arrRef spec0 w ≠ b) :
    W m c b = m ((c : Thread nD τ).loc b) := by
  unfold W Pipeline.afterTail
  rw [StableHlo.after_of_forall_not_mem (b := Proc.devRef .tc b) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne h19, StableHlo.devRef_ne_of_ne h20⟩)),
    Pipeline.withArrays_of_ne _ c (V0 m c) _ b hw]
  exact V_of_not_written m c b hb

/-- At a final state of the run every argument holds what it was launched with. -/
theorem args_of (r : PUnit × MemSt nD τ sig (Elt F))
    (h : Pipeline.FramePost (Pipeline.pin pcfgs (adm m)) (dats m) 0 (Pipeline.afterTail pcfgs (adm m) (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have rest : ∀ b : Ref sig .tc, b.isScoped = false → b ∉ preWritten → b ≠ main_v19 → b ≠ main_v20 → (∀ w, Pipeline.arrRef spec0 w ≠ b) →
      r.2.mem ((c.tc : Thread nD τ).loc b) = m ((c.tc : Thread nD τ).loc b) := fun b hs hb h19 h20 hw =>
    ((h c).2 b (Pipeline.mem_restRefs_of b hs hw)).trans (W_of_not_written m c b hb h19 h20 hw)
  refine ⟨rest _ rfl (by decide) (by decide) (by decide) (by decide), rest _ rfl (by decide) (by decide) (by decide) (by decide), ?_,
    rest _ rfl (by decide) (by decide) (by decide) (by decide), rest _ rfl (by decide) (by decide) (by decide) (by decide),
    rest _ rfl (by decide) (by decide) (by decide) (by decide), rest _ rfl (by decide) (by decide) (by decide) (by decide)⟩
  exact ((h c).1 4).trans (((dats m 0 c).arrAt_in 4 rfl _).trans ((A_eq m c 4).trans (V_of_not_written m c main_arg2 (by decide))))

/-- The frame: the program ends, its arguments unchanged, every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m r h.1 c, h.2⟩) (run_main_quiescent m ρ)

end Cert.Kernel.Hand

end
-- ==== Proof.KiLoop.lean ====
/-
  The body of the kernel at one grid point, run once: what it leaves in its two scratch accumulators and its two
  result blocks, as functions of what it reads. Everything here holds for any reading of the floating-point operations.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import Idealize.ShloMosaic.Lib.Tactic
public import Idealize.ShloMosaic.Lib.WordCmp
public import Idealize.ShloMosaic.Lib.LoopRemainder

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes, as functions of the contents it reads -/

/-- The grid coordinate as the word the body computes with. -/
abbrev gw (i : grid0.Coords) : BitVec 32 := BitVec.ofNat 32 (i 0).val

/-- The condition of the body's first branch (the first grid point), as the body computes it. -/
abbrev cond1 (i : grid0.Coords) : BitVec 1 := Scalar.cmpi .ne (Scalar.extui (Scalar.cmpi .eq (gw i) 0#32)) 0#32

/-- The one element of a one-element rectangle. -/
abbrev one0 : S1.Idx := Shape.Idx.first (numel1_S1.symm ▸ Nat.one_pos)

/-- The word of a table of 1428 words at the grid point. -/
abbrev wordAt (i : grid0.Coords) (x : Vec F S1428 .i32) : Elt F .i32 :=
  View.ld x (Rect.unit (s := S1428) (k0_off1 i) S1.size (k0_off1_inb i)) one0

section Trip

variable (i : grid0.Coords) (v4 v6 : Elt F .i32) (hw : k0_chk1 v4 v6)
  (x3 : Vec F S408 .i32) (x4 : Vec F S408x2176 .i32) (x5 : Vec F S408x2176 .f32)

/-- The row of positions a trip reads. -/
abbrev rowI (k : Fin (k0_t1_loop v4 v6).trips) : Vec F S1x2176 .i32 :=
  View.ld x4 (Rect.unit (s := S408x2176) (k0_off2 v4 v6 k) S1x2176.size (k0_off2_inb v4 v6 hw k))
/-- The row of weights a trip reads. -/
abbrev rowW (k : Fin (k0_t1_loop v4 v6).trips) : Vec F S1x2176 .f32 :=
  View.ld x5 (Rect.unit (s := S408x2176) (k0_off2 v4 v6 k) S1x2176.size (k0_off2_inb v4 v6 hw k))
/-- The start word a trip reads. -/
abbrev startW (k : Fin (k0_t1_loop v4 v6).trips) : Elt F .i32 :=
  View.ld x3 (Rect.unit (s := S408) (k0_off3 v4 v6 k) S1.size (k0_off3_inb v4 v6 hw k)) one0

/-- What a trip stores into the document block's accumulator, from what it holds. -/
abbrev ddStep (x12 : Vec F S2176x160 .bf16) (k : Fin (k0_t1_loop v4 v6).trips) (d : Vec F S256x160 .f32) : Vec F S256x160 .f32 :=
  k0_pay9 (gw i) (rowI v4 v6 hw x4 k) (rowW v4 v6 hw x5 k) (startW v4 v6 hw x3 k) d x12
/-- What a trip stores into the query accumulator, from what it holds. -/
abbrev accStep (x8 : Vec F S256x160 .fp8e4m3) (x9 : Vec F S1x1x256 .f32) (k : Fin (k0_t1_loop v4 v6).trips) (a : Vec F S160x2176 .f32) : Vec F S160x2176 .f32 :=
  k0_pay4 (k0_pay10 (gw i) (rowI v4 v6 hw x4 k) (rowW v4 v6 hw x5 k) (startW v4 v6 hw x3 k) x8 x9 a)

/-- The document block's accumulator after the first `k` trips, from `d0`. -/
def ddV (x12 : Vec F S2176x160 .bf16) (d0 : Vec F S256x160 .f32) : ℕ → Vec F S256x160 .f32
  | 0 => d0
  | k + 1 => if h : k < (k0_t1_loop v4 v6).trips then ddStep i v4 v6 hw x3 x4 x5 x12 ⟨k, h⟩ (ddV x12 d0 k) else ddV x12 d0 k
/-- The query accumulator after the first `k` trips, from `a0`. -/
def accV (x8 : Vec F S256x160 .fp8e4m3) (x9 : Vec F S1x1x256 .f32) (a0 : Vec F S160x2176 .f32) : ℕ → Vec F S160x2176 .f32
  | 0 => a0
  | k + 1 => if h : k < (k0_t1_loop v4 v6).trips then accStep i v4 v6 hw x3 x4 x5 x8 x9 ⟨k, h⟩ (accV x8 x9 a0 k) else accV x8 x9 a0 k

end Trip

/-! ## The loop by its invariant -/

section Loop

variable (𝒱 : Variants) (c : Dev nD) (bd : Option 𝒱.V) (E : Set ℕ) (i : grid0.Coords)
variable (arg1 : Memref sig .tc .smem S1428 .i32) (harg1 : arg1.IsWhole) (arg2 : Memref sig .tc .smem S1428 .i32) (harg2 : arg2.IsWhole) (arg3 : Memref sig .tc .smem S408 .i32) (harg3 : arg3.IsWhole) (arg4 : Memref sig .tc .vmem S408x2176 .i32) (harg4 : arg4.IsWhole) (arg5 : Memref sig .tc .vmem S408x2176 .f32) (harg5 : arg5.IsWhole) (arg6 : Memref sig .tc .vmem S2176x160 .fp8e4m3) (harg6 : arg6.IsWhole) (arg7 : Memref sig .tc .vmem S2176x1 .f32) (harg7 : arg7.IsWhole) (arg8 : Memref sig .tc .vmem S256x160 .fp8e4m3) (harg8 : arg8.IsWhole) (arg9 : Memref sig .tc .vmem S1x1x256 .f32) (harg9 : arg9.IsWhole) (arg10 : Memref sig .tc .vmem S160x2176 .bf16) (harg10 : arg10.IsWhole) (arg11 : Memref sig .tc .vmem S256x160 .bf16) (harg11 : arg11.IsWhole) (arg12 : Memref sig .tc .vmem S2176x160 .bf16) (harg12 : arg12.IsWhole) (arg13 : Memref sig .tc .vmem S160x2176 .f32) (harg13 : arg13.IsWhole) (arg14 : Memref sig .tc .vmem S256x160 .f32) (harg14 : arg14.IsWhole)
variable (v4 v6 : Elt F .i32) (hw : k0_chk1 v4 v6)
variable (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X12 : BufTy.Contents (Elt F) arg12.view.ty)

/-- The whole rectangle of an accumulator. -/
abbrev rA : Rect S160x2176 := Rect.unit (s := S160x2176) ![0, 0] S160x2176.size inb_S160x2176_S160x2176_0_0
abbrev rD : Rect S256x160 := Rect.unit (s := S256x160) ![0, 0] S256x160.size inb_S256x160_S256x160_0_0
abbrev rQ : Rect S2176x160 := Rect.unit (s := S2176x160) ![0, 0] S2176x160.size inb_S2176x160_S2176x160_0_0
abbrev rS : Rect S1x1x256 := Rect.unit (s := S1x1x256) ![0, 0, 0] S1x1x256.size inb_S1x1x256_S1x1x256_0_0_0

/-- The raw contents of the query accumulator's buffer before trip `k`. -/
def rawA (G : BufTy.Contents (Elt F) arg13.view.ty) : ℕ → BufTy.Contents (Elt F) arg13.view.ty
  | 0 => G
  | k + 1 => if h : k < (k0_t1_loop v4 v6).trips then
      arg13.view.writes (Elt F) (rawA G k) [⟨rA, accStep i v4 v6 hw (arg3.view.read (Elt F) X3) (arg4.view.read (Elt F) X4) (arg5.view.read (Elt F) X5)
        (View.ld (arg8.view.read (Elt F) X8) rD) (View.ld (arg9.view.read (Elt F) X9) rS) ⟨k, h⟩ (View.ld (arg13.view.read (Elt F) (rawA G k)) rA)⟩]
    else rawA G k
/-- The raw contents of the document block's accumulator before trip `k`. -/
def rawD (G : BufTy.Contents (Elt F) arg14.view.ty) : ℕ → BufTy.Contents (Elt F) arg14.view.ty
  | 0 => G
  | k + 1 => if h : k < (k0_t1_loop v4 v6).trips then
      arg14.view.writes (Elt F) (rawD G k) [⟨rD, ddStep i v4 v6 hw (arg3.view.read (Elt F) X3) (arg4.view.read (Elt F) X4) (arg5.view.read (Elt F) X5)
        (View.ld (arg12.view.read (Elt F) X12) rQ) ⟨k, h⟩ (View.ld (arg14.view.read (Elt F) (rawD G k)) rD)⟩]
    else rawD G k

/-- What the loop holds before trip `k`: what it reads, unchanged, and its two accumulators at the contents the first
    `k` trips leave. -/
abbrev inv1 (q : PosShare TreeShare) (G13 : BufTy.Contents (Elt F) arg13.view.ty) (G14 : BufTy.Contents (Elt F) arg14.view.ty) (k : ℕ) (_u : PUnit) : sProp 𝕄 :=
  iprop((arg3.view.loc (c : Thread nD τ) ↦[arg3.view.set]{q} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12)
    ∗ (∃ f, (arg13.view.loc (c : Thread nD τ) ↦[arg13.view.set]{fullShare} f) ∗ ⌜f = rawA i arg3 arg4 arg5 arg8 arg9 arg13 v4 v6 hw X3 X4 X5 X8 X9 G13 k⌝)
    ∗ (∃ f, (arg14.view.loc (c : Thread nD τ) ↦[arg14.view.set]{fullShare} f) ∗ ⌜f = rawD i arg3 arg4 arg5 arg12 arg14 v4 v6 hw X3 X4 X5 X12 G14 k⌝))

set_option maxHeartbeats 4000000 in
/-- One trip of the loop: its two stores, over what it finds. -/
theorem trip1 (q : PosShare TreeShare) (k : Fin (k0_t1_loop v4 v6).trips) (f13 : BufTy.Contents (Elt F) arg13.view.ty) (f14 : BufTy.Contents (Elt F) arg14.view.ty) :
    (iprop((arg3.view.loc (c : Thread nD τ) ↦[arg3.view.set]{q} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12)
      ∗ (arg13.view.loc (c : Thread nD τ) ↦[arg13.view.set]{fullShare} f13) ∗ (arg14.view.loc (c : Thread nD τ) ↦[arg14.view.set]{fullShare} f14)) : sProp 𝕄)
    ⊢ wp Idealize.ShloMosaic.frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 (gw i) v4 v6 hw k PUnit.unit)
      (fun _ => iprop((arg3.view.loc (c : Thread nD τ) ↦[arg3.view.set]{q} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12)
      ∗ (arg13.view.loc (c : Thread nD τ) ↦[arg13.view.set]{fullShare} arg13.view.writes (Elt F) f13 [⟨rA, accStep i v4 v6 hw (arg3.view.read (Elt F) X3) (arg4.view.read (Elt F) X4) (arg5.view.read (Elt F) X5)
        (View.ld (arg8.view.read (Elt F) X8) rD) (View.ld (arg9.view.read (Elt F) X9) rS) k (View.ld (arg13.view.read (Elt F) f13) rA)⟩])
      ∗ (arg14.view.loc (c : Thread nD τ) ↦[arg14.view.set]{fullShare} arg14.view.writes (Elt F) f14 [⟨rD, ddStep i v4 v6 hw (arg3.view.read (Elt F) X3) (arg4.view.read (Elt F) X4) (arg5.view.read (Elt F) X5)
        (View.ld (arg12.view.read (Elt F) X12) rQ) k (View.ld (arg14.view.read (Elt F) f14) rD)⟩]))) := by
  unfold k0_t1_body
  iintro ⟨H3, H4, H5, H8, H9, H12, H13, H14⟩
  sl_exec
  sl_step
  isplitl [H3]; · iexact H3
  isplitl [H4]; · iexact H4
  isplitl [H5]; · iexact H5
  isplitl [H8]; · iexact H8
  isplitl [H9]; · iexact H9
  isplitl [H12]; · iexact H12
  isplitl [H13]; · iexact H13
  iexact H14

set_option warn.classDefReducibility false in
/-- The loop by its invariant. -/
@[sl_loop] def loopInv1 (q : PosShare TreeShare) (G13 : BufTy.Contents (Elt F) arg13.view.ty) (G14 : BufTy.Contents (Elt F) arg14.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 (gw i) v4 v6 hw where
  inv := inv1 c i arg3 arg4 arg5 arg8 arg9 arg12 arg13 arg14 v4 v6 hw X3 X4 X5 X8 X9 X12 q G13 G14
  step k acc := by
    iintro ⟨H3, H4, H5, H8, H9, H12, ⟨%f13, H13, %h13⟩, ⟨%f14, H14, %h14⟩⟩
    iapply (wp_wand_r Idealize.ShloMosaic.frame (wpE (defs₀ (F := F)) 𝒱 (c : Thread nD τ) bd) E)
    isplitl [H3 H4 H5 H8 H9 H12 H13 H14]
    · iapply (trip1 𝒱 c bd E i arg1 harg1 arg2 harg2 arg3 harg3 arg4 harg4 arg5 harg5 arg6 harg6 arg7 harg7 arg8 harg8 arg9 harg9 arg10 harg10 arg11 harg11 arg12 harg12 arg13 harg13 arg14 harg14 v4 v6 hw X3 X4 X5 X8 X9 X12 q k f13 f14)
      isplitl [H3]; · iexact H3
      isplitl [H4]; · iexact H4
      isplitl [H5]; · iexact H5
      isplitl [H8]; · iexact H8
      isplitl [H9]; · iexact H9
      isplitl [H12]; · iexact H12
      isplitl [H13]; · iexact H13
      iexact H14
    · iintro %_ ⟨H3, H4, H5, H8, H9, H12, H13, H14⟩
      isplitl [H3]; · iexact H3
      isplitl [H4]; · iexact H4
      isplitl [H5]; · iexact H5
      isplitl [H8]; · iexact H8
      isplitl [H9]; · iexact H9
      isplitl [H12]; · iexact H12
      isplitl [H13]
      · iexists _; isplitl [H13]; · iexact H13
        ipureintro; rw [h13, rawA, dif_pos k.isLt]
      iexists _; isplitl [H14]; · iexact H14
      ipureintro; rw [h14, rawD, dif_pos k.isLt]

/-- One store through the whole rectangle reads back as its payload. -/
theorem read_one {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f [⟨Rect.unit off S.size inb, w⟩] (fun y => ⟨_, List.mem_singleton_self _, View.mem_set_unit_zero h inb y⟩)).trans
    (View.canon_unit_zero h inb w)

/-- What the query accumulator's buffer reads before trip `k`. -/
theorem read_rawA (G : BufTy.Contents (Elt F) arg13.view.ty) (k : ℕ) :
    arg13.view.read (Elt F) (rawA i arg3 arg4 arg5 arg8 arg9 arg13 v4 v6 hw X3 X4 X5 X8 X9 G k)
      = accV i v4 v6 hw (arg3.view.read (Elt F) X3) (arg4.view.read (Elt F) X4) (arg5.view.read (Elt F) X5) (arg8.view.read (Elt F) X8) (arg9.view.read (Elt F) X9) (arg13.view.read (Elt F) G) k := by
  induction k with
  | zero => rfl
  | succ k ih =>
    rw [rawA, accV]
    by_cases h : k < (k0_t1_loop v4 v6).trips
    · rw [dif_pos h, dif_pos h]
      refine (read_one _ _ (by decide) _ _).trans ?_
      rw [ih, View.ld_unit_zero (by decide), View.ld_unit_zero (by decide), View.ld_unit_zero (by decide)]
    · rw [dif_neg h, dif_neg h, ih]

/-- What the document block's accumulator reads before trip `k`. -/
theorem read_rawD (G : BufTy.Contents (Elt F) arg14.view.ty) (k : ℕ) :
    arg14.view.read (Elt F) (rawD i arg3 arg4 arg5 arg12 arg14 v4 v6 hw X3 X4 X5 X12 G k)
      = ddV i v4 v6 hw (arg3.view.read (Elt F) X3) (arg4.view.read (Elt F) X4) (arg5.view.read (Elt F) X5) (arg12.view.read (Elt F) X12) (arg14.view.read (Elt F) G) k := by
  induction k with
  | zero => rfl
  | succ k ih =>
    rw [rawD, ddV]
    by_cases h : k < (k0_t1_loop v4 v6).trips
    · rw [dif_pos h, dif_pos h]
      refine (read_one _ _ (by decide) _ _).trans ?_
      rw [ih, View.ld_unit_zero (by decide), View.ld_unit_zero (by decide)]
    · rw [dif_neg h, dif_neg h, ih]

end Loop

end Cert.KernelIdeal.Hand

end
-- ==== Proof.KiBody.lean ====
/-
  The body of the kernel at one grid point, run once. Everything here holds for any reading of the floating-point operations.
-/
module

public import proofs.«01_k».proof.Proof.KiLoop

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body -/

/-- The query rows after the body: computed at the first point, kept at every other. -/
abbrev qfOut (i : grid0.Coords) (x6 : Vec F S2176x160 .fp8e4m3) (x7 : Vec F S2176x1 .f32) (x12 : Vec F S2176x160 .bf16) : Vec F S2176x160 .bf16 :=
  if cond1 i = 1#1 then k0_pay1 x6 x7 else x12
/-- The query accumulator as the loop finds it: zeroed at the first point, kept at every other. -/
abbrev accIn (i : grid0.Coords) (x13 : Vec F S160x2176 .f32) : Vec F S160x2176 .f32 :=
  if cond1 i = 1#1 then k0_pay2 else x13
/-- The query accumulator after the body. -/
abbrev accOut (i : grid0.Coords) (v4 v6 : Elt F .i32) (hw : k0_chk1 v4 v6) (x3 : Vec F S408 .i32) (x4 : Vec F S408x2176 .i32) (x5 : Vec F S408x2176 .f32)
    (x8 : Vec F S256x160 .fp8e4m3) (x9 : Vec F S1x1x256 .f32) (x13 : Vec F S160x2176 .f32) : Vec F S160x2176 .f32 :=
  accV i v4 v6 hw x3 x4 x5 x8 x9 (accIn i x13) (k0_t1_loop v4 v6).trips
/-- The document block's accumulator after the body. -/
abbrev ddOut (i : grid0.Coords) (v4 v6 : Elt F .i32) (hw : k0_chk1 v4 v6) (x3 : Vec F S408 .i32) (x4 : Vec F S408x2176 .i32) (x5 : Vec F S408x2176 .f32)
    (x12 : Vec F S2176x160 .bf16) : Vec F S256x160 .f32 :=
  ddV i v4 v6 hw x3 x4 x5 x12 k0_pay3 (k0_t1_loop v4 v6).trips

set_option maxHeartbeats 8000000 in
/-- The kernel body at a grid point, on whole buffers: the three tables at any share, the inputs and the scratch at the
    contents named, the two blocks it may write; it leaves the inputs as they were and the rest as the functions above say. -/
theorem sound_kernel (c : Dev nD) (E : Set ℕ) (q : PosShare TreeShare) (i : grid0.Coords) (arg1 : Memref sig .tc .smem S1428 .i32) (harg1 : arg1.IsWhole) (arg2 : Memref sig .tc .smem S1428 .i32) (harg2 : arg2.IsWhole) (arg3 : Memref sig .tc .smem S408 .i32) (harg3 : arg3.IsWhole) (arg4 : Memref sig .tc .vmem S408x2176 .i32) (harg4 : arg4.IsWhole) (arg5 : Memref sig .tc .vmem S408x2176 .f32) (harg5 : arg5.IsWhole) (arg6 : Memref sig .tc .vmem S2176x160 .fp8e4m3) (harg6 : arg6.IsWhole) (arg7 : Memref sig .tc .vmem S2176x1 .f32) (harg7 : arg7.IsWhole) (arg8 : Memref sig .tc .vmem S256x160 .fp8e4m3) (harg8 : arg8.IsWhole) (arg9 : Memref sig .tc .vmem S1x1x256 .f32) (harg9 : arg9.IsWhole) (arg10 : Memref sig .tc .vmem S160x2176 .bf16) (harg10 : arg10.IsWhole) (arg11 : Memref sig .tc .vmem S256x160 .bf16) (harg11 : arg11.IsWhole) (arg12 : Memref sig .tc .vmem S2176x160 .bf16) (harg12 : arg12.IsWhole) (arg13 : Memref sig .tc .vmem S160x2176 .f32) (harg13 : arg13.IsWhole) (arg14 : Memref sig .tc .vmem S256x160 .f32) (harg14 : arg14.IsWhole)
    (x1 : Vec F S1428 .i32) (x2 : Vec F S1428 .i32) (x3 : Vec F S408 .i32) (x4 : Vec F S408x2176 .i32) (x5 : Vec F S408x2176 .f32) (x6 : Vec F S2176x160 .fp8e4m3) (x7 : Vec F S2176x1 .f32) (x8 : Vec F S256x160 .fp8e4m3) (x9 : Vec F S1x1x256 .f32) (x10 : Vec F S160x2176 .bf16) (x12 : Vec F S2176x160 .bf16) (x13 : Vec F S160x2176 .f32) (hw : k0_chk1 (wordAt i x1) (wordAt i x2)) (K : PUnit → sProp 𝕄) :
    iprop(owns (c : Thread nD τ) arg1 q x1
        ∗ owns (c : Thread nD τ) arg2 q x2
        ∗ owns (c : Thread nD τ) arg3 q x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ (∃ d, owns (c : Thread nD τ) arg11 fullShare d)
        ∗ owns (c : Thread nD τ) arg12 fullShare x12
        ∗ owns (c : Thread nD τ) arg13 fullShare x13
        ∗ (∃ d, owns (c : Thread nD τ) arg14 fullShare d)
        ∗ (iprop(owns (c : Thread nD τ) arg1 q x1
        ∗ owns (c : Thread nD τ) arg2 q x2
        ∗ owns (c : Thread nD τ) arg3 q x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (if k0_cond2 i = 1#1 then k0_pay7 (accOut i (wordAt i x1) (wordAt i x2) hw x3 x4 x5 x8 x9 x13) else x10)
        ∗ owns (c : Thread nD τ) arg11 fullShare (k0_pay6 (ddOut i (wordAt i x1) (wordAt i x2) hw x3 x4 x5 (qfOut i x6 x7 x12)))
        ∗ owns (c : Thread nD τ) arg12 fullShare (qfOut i x6 x7 x12)
        ∗ owns (c : Thread nD τ) arg13 fullShare (accOut i (wordAt i x1) (wordAt i x2) hw x3 x4 x5 x8 x9 x13)
        ∗ (∃ d, owns (c : Thread nD τ) arg14 fullShare d)) -∗ K ⟨⟩))
      ⊢ wp Idealize.ShloMosaic.frame (wpE (defs₀ (F := F)) Variants.none c none) E (cc0_maxsim_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_maxsim_bwd_eq_skeleton]; unfold cc0_maxsim_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, Hk⟩
  subst hf1 hf2 hf3 hf4 hf5 hf6 hf7 hf8 hf9 hf10 hf12 hf13
  by_cases hc1 : cond1 i = 1#1 <;> by_cases hc2 : k0_cond2 i = 1#1
  all_goals
    simp only [qfOut, accOut, ddOut, accIn, hc1, hc2, if_true, if_false]
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      first
        | (guard_hyp hc2 : ¬ k0_cond2 i = 1#1; exact rfl)
        | exact (read_one _ _ (by decide) _ _).trans (congrArg k0_pay7 ((View.ld_unit_zero (by decide) _ _).trans
            ((read_rawA i arg3 arg4 arg5 arg8 arg9 arg13 _ _ hw f3 f4 f5 f8 f9 _ _).trans
              (by first | (guard_hyp hc1 : ¬ cond1 i = 1#1; exact rfl) | exact congrArg (fun a => accV i _ _ hw _ _ _ _ _ a _) (read_one _ _ (by decide) _ _)))))
    isplitl [H11]
    · iexists _; isplitr
      swap; · iexact H11
      ipureintro
      refine (read_one _ _ (by decide) _ _).trans (congrArg k0_pay6 ((View.ld_unit_zero (by decide) _ _).trans
        ((read_rawD i arg3 arg4 arg5 arg12 arg14 _ _ hw f3 f4 f5 _ _ _).trans ?_)))
      first
        | (guard_hyp hc1 : ¬ cond1 i = 1#1; exact congrArg₂ (fun a b => ddV i _ _ hw _ _ _ a b _) rfl (read_one _ _ (by decide) _ _))
        | exact congrArg₂ (fun a b => ddV i _ _ hw _ _ _ a b _) ((read_one _ _ (by decide) _ _).trans
            (congrArg₂ k0_pay1 (View.ld_unit_zero (by decide) _ _) (View.ld_unit_zero (by decide) _ _))) (read_one _ _ (by decide) _ _)
    isplitl [H12]
    · iexists _; isplitr
      swap; · iexact H12
      ipureintro
      first
        | (guard_hyp hc1 : ¬ cond1 i = 1#1; exact rfl)
        | exact (read_one _ _ (by decide) _ _).trans
            (congrArg₂ k0_pay1 (View.ld_unit_zero (by decide) _ _) (View.ld_unit_zero (by decide) _ _))
    isplitl [H13]
    · iexists _; isplitr
      swap; · iexact H13
      ipureintro
      refine (read_rawA i arg3 arg4 arg5 arg8 arg9 arg13 _ _ hw f3 f4 f5 f8 f9 _ _).trans ?_
      first | (guard_hyp hc1 : ¬ cond1 i = 1#1; exact rfl) | exact congrArg (fun a => accV i _ _ hw _ _ _ _ _ a _) (read_one _ _ (by decide) _ _)
    iexists _; iexists _; isplitr
    swap; · iexact H14
    ipureintro; rfl

end Cert.KernelIdeal.Hand

end
-- ==== Proof.KiTables.lean ====
/-
  The tables the kernel reads and the arrays its blocks are cut from, as the host lines before it leave them; the two
  tables of counts are numbers of documents, so what the body assumes of them holds for every input.
-/
module

public import proofs.«01_k».proof.Proof.Gen.KernelIdeal.Launch
public import Idealize.ShloMosaic.Lib.Tactic
public import Idealize.ShloMosaic.Lib.Claim
public import Idealize.ShloMosaic.Lib.WordCmp
public import Idealize.ShloMosaic.Lib.LoopRemainder
public import Idealize.ShloMosaic.Lib.IndicatorCount
public import Idealize.ShloMosaic.Lib.StableHlo.ReadAt
public import Idealize.ShloMosaic.Lib.Pipeline.FrameSuffix
public import Idealize.ShloMosaic.Lib.ValueIdx
public import Idealize.ShloMosaic.Lib.Affine

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

/-- The host lines before the kernel. -/
abbrev preOps : List (List (HloOp τ sig (Elt F))) := [hostOps0, hostOps0_1, hostOps0_2, hostOps0_3, hostOps0_4, hostOps0_5]
/-- What every buffer holds when the kernel is entered: the launch contents after the host lines before it. -/
abbrev V0 (c : Dev nD) : Valuation τ sig (Elt F) := StableHlo.after (List.flatten preOps) (fun b => m (c, b))
/-- The same read at a reference. -/
abbrev V (c : Dev nD) (b : Ref sig .tc) : Buf (Elt F) ((c : Thread nD τ).loc b) := V0 m c (Proc.devRef .tc b)

/-- The running sums of the document lengths. -/
abbrev cumW (x : S408.Idx → BitVec 32) : S408.Idx → BitVec 32 :=
  Host.reduceWindow IntOp.addi ![408] ![1] ![407] ![0] x (broadcastInDim S_ ![] bcast_S_S_ (constantI S_ 32 0#32)) reduceWindows_S408_S408_w408s1p407_0 h_S_

/-- The lengths of the documents, as the launch memory holds them. -/
abbrev lensW (c : Dev nD) : S408.Idx → BitVec 32 := m ((c : Thread nD τ).loc main_arg4)

/-- The table of document starts holds the running sums less the lengths. -/
theorem V_start (c : Dev nD) : (V m c main_v1 : S408.Idx → BitVec 32) = fun d => cumW (lensW m c) d - lensW m c d := by
  funext d
  unfold V V0 preOps
  simp only [List.flatten_cons, List.flatten_nil, List.append_nil, List.cons_append, List.nil_append]
  after_reads_simp
  simp -implicitDefEqProofs only [StableHlo.TRef.toBuf, StableHlo.TRef.ofBuf, cast_cast, cast_eq]
  rfl

/-- How many documents' words stand in a relation to a grid point's word. -/
def countN (p : CmpIPredicate) (x : S408.Idx → BitVec 32) (y : BitVec 32) : ℕ :=
  (Finset.univ.filter fun d : Fin 408 => IntOp.cmpi p (x (ix1 d)) y = 1#1).card

theorem countN_le (p : CmpIPredicate) (x : S408.Idx → BitVec 32) (y : BitVec 32) : countN p x y ≤ 408 :=
  (Finset.card_le_univ _).trans (by simp)

/-- The host's table of counts, at a grid point, is that number. -/
theorem reduce_count (p : CmpIPredicate) (x : S408.Idx → BitVec 32) (y : S1428.Idx → BitVec 32) :
    Host.reduce IntOp.addi
      (extui 32 (cmpi p (broadcastInDim S408x1428 ![0, 1] bcast_S408x1_S408x1428_0_1 (broadcastInDim S408x1 ![0] bcast_S408_S408x1_0 x))
        (broadcastInDim S408x1428 ![0, 1] bcast_S1x1428_S408x1428_0_1 (broadcastInDim S1x1428 ![1] bcast_S1428_S1x1428_1 y))) natLt_1_32)
      (constantI S_ 32 0#32) reducesTo_S408x1428_S1428_d0 h_S_ = fun j => BitVec.ofNat 32 (countN p x (y j)) := by
  funext j
  rw [Host.reduce_eq_fold_single _ _ _ _ (by decide : S408x1428.Reduces [0] S1428)]
  unfold countN
  refine Eq.trans ?_ (IndicatorCount.fold_addi_setWidth_eq_card (w := 32) (fun d : Fin 408 => IntOp.cmpi p (x (ix1 d)) (y j)) Finset.univ)
  refine congrArg (fun f => Finset.fold IntOp.addi (0#32) f (Finset.univ : Finset (Fin 408))) (funext fun d => ?_)
  refine congrArg₂ (fun a b => (IntOp.cmpi p (x a) (y b)).setWidth 32) (funext fun a => ?_) (funext fun a => ?_)
  · fin_cases a; rfl
  · fin_cases a; rfl

/-- The first table: how many documents end at or before the grid point's block. -/
theorem V_first (c : Dev nD) : (V m c main_v5 : S1428.Idx → BitVec 32)
    = fun j => BitVec.ofNat 32 (countN .sle (cumW (lensW m c)) (BitVec.ofNat 32 (j 0).val * 256#32)) := by
  unfold V V0 preOps
  simp only [List.flatten_cons, List.flatten_nil, List.append_nil, List.cons_append, List.nil_append]
  after_reads_simp
  simp -implicitDefEqProofs only [StableHlo.TRef.toBuf, StableHlo.TRef.ofBuf, cast_cast, cast_eq]
  exact reduce_count .sle _ _

/-- The second table: how many documents start before the end of the grid point's block. -/
theorem V_last (c : Dev nD) : (V m c main_v8 : S1428.Idx → BitVec 32)
    = fun j => BitVec.ofNat 32 (countN .slt (fun d => cumW (lensW m c) d - lensW m c d) (BitVec.ofNat 32 (j 0).val * 256#32 + 256#32)) := by
  unfold V V0 preOps
  simp only [List.flatten_cons, List.flatten_nil, List.append_nil, List.cons_append, List.nil_append]
  after_reads_simp
  simp -implicitDefEqProofs only [StableHlo.TRef.toBuf, StableHlo.TRef.ofBuf, cast_cast, cast_eq]
  exact reduce_count .slt _ _

/-! ## What the body assumes of two counts -/

/-- The loop runs from the first word to the second by ones. -/
theorem t1_loop_eq (v4 v6 : BitVec 32) : k0_t1_loop v4 v6 = ⟨v4, v6, 1#32⟩ := by
  unfold k0_t1_loop
  simp only [Scalar.muli_divsi_one]
  have : Scalar.addi v4 (Scalar.subi v6 v4) = v6 := by
    show v4 + (v6 - v4) = v6
    rw [BitVec.add_comm, BitVec.sub_add_cancel]
  rw [this]

theorem toInt_small (a : ℕ) (ha : a ≤ 408) : (BitVec.ofNat 32 a).toInt = a := WordCmp.toInt_ofNat_of_lt (by omega)

theorem t1_trips (a b : ℕ) (ha : a ≤ 408) (hb : b ≤ 408) : (k0_t1_loop (BitVec.ofNat 32 a) (BitVec.ofNat 32 b)).trips = b - a := by
  rw [t1_loop_eq]
  show Scf.trips _ _ _ = _
  unfold Scf.trips
  rw [toInt_small a ha, toInt_small b hb, show (1#32 : BitVec 32).toInt = 1 from by decide]
  omega

theorem iv_word (a k : ℕ) : Scf.iv (BitVec.ofNat 32 a) 1#32 k = BitVec.ofNat 32 (a + k) := by
  unfold Scf.iv; rw [BitVec.mul_one, BitVec.ofNat_add]

theorem iv_toNat (a k : ℕ) (h : a + k ≤ 408) : (Scalar.indexCast (Scf.iv (BitVec.ofNat 32 a) 1#32 k)).toNat = a + k := by
  rw [iv_word]
  show (BitVec.ofNat 32 (a + k)).toNat = _
  exact WordCmp.toNat_ofNat_of_lt (by omega)

/-- Of two counts of documents everything the body assumes of its loop bounds holds. -/
theorem chk1_of (a b : ℕ) (ha : a ≤ 408) (hb : b ≤ 408) : k0_chk1 (BitVec.ofNat 32 a) (BitVec.ofNat 32 b) := by
  have hk : ∀ k : Fin (k0_t1_loop (BitVec.ofNat 32 a) (BitVec.ofNat 32 b)).trips, a + k.val < 408 := fun k => by
    have := lt_of_lt_of_eq k.isLt (t1_trips a b ha hb); omega
  refine ⟨?_, ?_, ?_, Scf.rem_ok _ _, fun k => (Scf.rem_no_trip _ _ k).elim, fun k => (Scf.rem_no_trip _ _ k).elim⟩
  · rw [t1_loop_eq]
    refine ⟨(by decide : 0 < (1#32 : BitVec 32).toInt), ?_⟩
    have : Scf.trips (BitVec.ofNat 32 a) (BitVec.ofNat 32 b) 1#32 = b - a := by
      have := t1_trips a b ha hb; rwa [t1_loop_eq] at this
    show (BitVec.ofNat 32 a).toInt + (Scf.trips (BitVec.ofNat 32 a) (BitVec.ofNat 32 b) 1#32 : ℤ) * (1#32 : BitVec 32).toInt < 2 ^ 31
    rw [this, toInt_small a ha, show (1#32 : BitVec 32).toInt = 1 from by decide]
    omega
  · intro k x
    have h := hk k
    have e : (Scalar.indexCast (Scf.iv (BitVec.ofNat 32 a) 1#32 k.val)).toNat = a + k.val := iv_toNat a k.val (by omega)
    fin_cases x
    · show (Scalar.indexCast (Scf.iv (BitVec.ofNat 32 a) 1#32 k.val)).toNat + 1 ≤ 408
      omega
    · exact le_refl 2176
  · intro k x
    have h := hk k
    have e : (Scalar.indexCast (Scf.iv (BitVec.ofNat 32 a) 1#32 k.val)).toNat = a + k.val := iv_toNat a k.val (by omega)
    fin_cases x
    show (Scalar.indexCast (Scf.iv (BitVec.ofNat 32 a) 1#32 k.val)).toNat + 1 ≤ 408
    omega

end Cert.KernelIdeal.Hand

end
-- ==== Proof.KiFrame.lean ====
/-
  The kernel's pipeline run: what its scratch holds before every grid point, what it leaves in its result blocks, and the
  run of the whole program, from any memory: it ends, its arguments unchanged and every counter at zero. Everything here
  holds for any reading of the floating-point operations.
-/
module

public import proofs.«01_k».proof.Proof.KiBody
public import proofs.«01_k».proof.Proof.KiTables

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables and the blocks -/

/-- The tables the pipeline is entered with. -/
def tbl : (pre0).Contents (Elt F) := fun k => V m 0 (pre0.ref k)
/-- They are admissible: the pipeline asks nothing of them. -/
def adm : (p : Fin 1) → (pcfgs (F := F) p).Adm := fun _ => ⟨tbl m, trivial⟩

/-- The pipeline at these tables. -/
abbrev cfgA : Cfg sig Λ₀ := cfg0 (adm m 0)

/-- The current staging memref of each window at a point. -/
abbrev st0 (t : Fin (cfgA m).N) := ((cfgA m).win 0).stage ((cfgA m).slots t 0)
abbrev st1 (t : Fin (cfgA m).N) := ((cfgA m).win 1).stage ((cfgA m).slots t 1)
abbrev st2 (t : Fin (cfgA m).N) := ((cfgA m).win 2).stage ((cfgA m).slots t 2)
abbrev st3 (t : Fin (cfgA m).N) := ((cfgA m).win 3).stage ((cfgA m).slots t 3)
abbrev st4 (t : Fin (cfgA m).N) := ((cfgA m).win 4).stage ((cfgA m).slots t 4)
abbrev st5 (t : Fin (cfgA m).N) := ((cfgA m).win 5).stage ((cfgA m).slots t 5)
abbrev st6 (t : Fin (cfgA m).N) := ((cfgA m).win 6).stage ((cfgA m).slots t 6)
abbrev st7 (t : Fin (cfgA m).N) := ((cfgA m).win 7).stage ((cfgA m).slots t 7)

/-- The kernel body at a point, on what the pipeline calls it with. -/
abbrev bodyAt (t : Fin (cfgA m).N) : Prog (TpuEff nD τ sig (Elt F) Λ₀ .tc) PUnit :=
  cc0_maxsim_bwd (grid0.coords t) (Memref.whole main_v5) (Memref.isWhole_whole _) (Memref.whole main_v8) (Memref.isWhole_whole _) (Memref.whole main_v1) (Memref.isWhole_whole _)
    (spec0_0.stage ((cfgA m).slots t 0)) (hstage0_0 (((cfgA m).slots t 0).cast nbuf0_0)) (spec0_1.stage ((cfgA m).slots t 1)) (hstage0_1 (((cfgA m).slots t 1).cast nbuf0_1))
    (spec0_2.stage ((cfgA m).slots t 2)) (hstage0_2 (((cfgA m).slots t 2).cast nbuf0_2)) (spec0_3.stage ((cfgA m).slots t 3)) (hstage0_3 (((cfgA m).slots t 3).cast nbuf0_3))
    (spec0_4.stage ((cfgA m).slots t 4)) (hstage0_4 (((cfgA m).slots t 4).cast nbuf0_4)) (spec0_5.stage ((cfgA m).slots t 5)) (hstage0_5 (((cfgA m).slots t 5).cast nbuf0_5))
    (spec0_6.stage ((cfgA m).slots t 6)) (hstage0_6 (((cfgA m).slots t 6).cast nbuf0_6)) (spec0_7.stage ((cfgA m).slots t 7)) (hstage0_7 (((cfgA m).slots t 7).cast nbuf0_7))
    (Memref.whole cc0_scratch0) (Memref.isWhole_whole _) (Memref.whole cc0_scratch1) (Memref.isWhole_whole _) (Memref.whole cc0_scratch2) (Memref.isWhole_whole _)

/-- A window's block at a point, read off its array as the pipeline finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- An input window's current buffer holds its block at every point. -/
theorem before0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgA m) c) (hA : dat.A 5 = V m c (Pipeline.arrRef spec0 5))
    (hafter : ∀ t, dat.after 5 t = iblk m c 5 t) (t : Fin (cfgA m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the scratch holds -/

/-- The tables the body reads, on core `c`. -/
abbrev x1 (c : Dev nD) : Vec F S1428 .i32 := V m c main_v5
abbrev x2 (c : Dev nD) : Vec F S1428 .i32 := V m c main_v8
abbrev x3 (c : Dev nD) : Vec F S408 .i32 := V m c main_v1

/-- What the body assumes of the two words it reads holds at every point. -/
theorem hwAt (c : Dev nD) (i : grid0.Coords) : k0_chk1 (wordAt i (x1 m c)) (wordAt i (x2 m c)) := by
  unfold wordAt x1 x2
  rw [show (V m c main_v5 : Vec F S1428 .i32) = _ from V_first m c, show (V m c main_v8 : Vec F S1428 .i32) = _ from V_last m c]
  exact chk1_of _ _ (countN_le _ _ _) (countN_le _ _ _)

/-- The query rows, as the body computes them at the first point. -/
def qfV (c : Dev nD) : Vec F S2176x160 .bf16 :=
  k0_pay1 (iblk m c 2 ⟨0, Nat.lt_of_lt_of_eq (by norm_num) N_0.symm⟩) (iblk m c 3 ⟨0, Nat.lt_of_lt_of_eq (by norm_num) N_0.symm⟩)

/-- The query accumulator before each point. -/
def accAt (c : Dev nD) : ℕ → Vec F S160x2176 .f32
  | 0 => k0_pay2
  | t + 1 => if h : t < (cfgA m).N then
      accV (grid0.coords ⟨t, h⟩) (wordAt (grid0.coords ⟨t, h⟩) (x1 m c)) (wordAt (grid0.coords ⟨t, h⟩) (x2 m c)) (hwAt m c (grid0.coords ⟨t, h⟩)) (x3 m c) (iblk m c 0 ⟨t, h⟩) (iblk m c 1 ⟨t, h⟩) (iblk m c 4 ⟨t, h⟩) (iblk m c 5 ⟨t, h⟩) (accAt c t)
        (k0_t1_loop (wordAt (grid0.coords ⟨t, h⟩) (x1 m c)) (wordAt (grid0.coords ⟨t, h⟩) (x2 m c))).trips
    else accAt c t

/-- The document block's accumulator after the body at a point. -/
def ddAt (c : Dev nD) (t : Fin (cfgA m).N) : Vec F S256x160 .f32 :=
  ddOut (grid0.coords t) (wordAt (grid0.coords t) (x1 m c)) (wordAt (grid0.coords t) (x2 m c)) (hwAt m c (grid0.coords t)) (x3 m c) (iblk m c 0 t) (iblk m c 1 t) (qfV m c)

/-- The invariant before a point: the tables at the share the pipeline lends, the generator register, and the scratch,
    whose first two buffers hold the query rows and the accumulator from the second point on. -/
def Inv (c : Dev nD) (j : ℕ) : sProp 𝕄 :=
  iprop(Pipeline.ΦT pre0 (tbl m) c ∗ (∃ r, prngReg c r)
    ∗ (∃ f, ((c : Thread nD τ).loc cc0_scratch0 ↦{fullShare} f) ∗ ⌜j ≠ 0 → f = qfV m c⌝)
    ∗ (∃ f, ((c : Thread nD τ).loc cc0_scratch1 ↦{fullShare} f) ∗ ⌜j ≠ 0 → f = accAt m c j⌝)
    ∗ (∃ f : Buf (Elt F) ((c : Thread nD τ).loc cc0_scratch2), ((c : Thread nD τ).loc cc0_scratch2 ↦{fullShare} f)))

/-! ## The pipeline's proof data -/

/-- The arrays as the pipeline finds them; after the body at a point each input's buffer at its block, the two results'
    at the functions above; nothing owed; full shares. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (accAt m c (t.val + 1))
    | ⟨7, _⟩ => k0_pay6 (ddAt m c t)
  Φ j := Inv m c j.val
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = iblk m c 4 t := by dsimp only [dats]; rfl
theorem after5 (c : Dev nD) (t : Fin (cfgA m).N) : (dats m 0 c).after 5 t = iblk m c 5 t := by dsimp only [dats]; rfl
theorem after6 (c : Dev nD) (t : Fin (cfgA m).N) : (dats m 0 c).after 6 t = k0_pay7 (accAt m c (t.val + 1)) := by dsimp only [dats]; rfl
theorem after7 (c : Dev nD) (t : Fin (cfgA m).N) : (dats m 0 c).after 7 t = k0_pay6 (ddAt m c t) := by dsimp only [dats]; rfl

theorem before0 (c : Dev nD) (t : Fin (cfgA m).N) (d) : (dats m 0 c).before 0 t d = iblk m c 0 t := before0_of m (dats m 0 c) (A_eq m c 0) (after0 m c) t d
theorem before1 (c : Dev nD) (t : Fin (cfgA m).N) (d) : (dats m 0 c).before 1 t d = iblk m c 1 t := before1_of m (dats m 0 c) (A_eq m c 1) (after1 m c) t d
theorem before2 (c : Dev nD) (t : Fin (cfgA m).N) (d) : (dats m 0 c).before 2 t d = iblk m c 2 t := before2_of m (dats m 0 c) (A_eq m c 2) (after2 m c) t d
theorem before3 (c : Dev nD) (t : Fin (cfgA m).N) (d) : (dats m 0 c).before 3 t d = iblk m c 3 t := before3_of m (dats m 0 c) (A_eq m c 3) (after3 m c) t d
theorem before4 (c : Dev nD) (t : Fin (cfgA m).N) (d) : (dats m 0 c).before 4 t d = iblk m c 4 t := before4_of m (dats m 0 c) (A_eq m c 4) (after4 m c) t d
theorem before5 (c : Dev nD) (t : Fin (cfgA m).N) (d) : (dats m 0 c).before 5 t d = iblk m c 5 t := before5_of m (dats m 0 c) (A_eq m c 5) (after5 m c) t d

/-! ## The grid's conditions -/

/-- The body's first branch is taken at the first point only. -/
theorem cond1_iff : ∀ t : Fin grid0.N, cond1 (grid0.coords t) = 1#1 ↔ t.val = 0 := by decide +kernel
/-- Its last branch is taken at the last point only. -/
theorem cond2_iff : ∀ t : Fin grid0.N, k0_cond2 (grid0.coords t) = 1#1 ↔ t.val = 1427 := by decide +kernel

/-- The first result's one block is written back at the last point only. -/
theorem flush6 (t : Fin (cfgA m).N) : ((cfgA m).win 6).flush t = true ↔ t.val % 1428 = 1427 :=
  Window.flush_const _ rfl (fun _ _ => rfl) N_0 rfl t

end Cert.KernelIdeal.Hand

end
-- ==== Proof.KiRun.lean ====
/-
  The kernel's pipeline run: what its scratch holds before every grid point, what it leaves in its result blocks, and the
  run of the whole program, from any memory: it ends, its arguments unchanged and every counter at zero. Everything here
  holds for any reading of the floating-point operations.
-/
module

public import proofs.«01_k».proof.Proof.KiFrame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- The tables one by one. -/
theorem bigSep_T0 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- The tables as the body holds them: whole, at the share the pipeline lends. -/
theorem tables_eq (c : Dev nD) : (Pipeline.ΦT pre0 (tbl m) c : sProp 𝕄)
    = iprop(owns (c : Thread nD τ) (Memref.whole main_v5) fullShare.right (x1 m c) ∗ owns (c : Thread nD τ) (Memref.whole main_v8) fullShare.right (x2 m c)
      ∗ owns (c : Thread nD τ) (Memref.whole main_v1) fullShare.right (x3 m c)) := by
  obtain rfl : c = 0 := Subsingleton.elim _ _
  unfold Pipeline.ΦT Pipeline.prefHeld
  rw [bigSep_T0, owns_whole, owns_whole, owns_whole]
  rfl

/-- What the body is called with at a point, the windows one by one, -/
def bodyPre (c : Dev nD) (t : Fin (cfgA m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d))
    ∗ (∃ d, owns (c : Thread nD τ) (st5 m t) fullShare ((dats m 0 c).before 5 t d))
    ∗ (∃ d, owns (c : Thread nD τ) (st6 m t) fullShare ((dats m 0 c).before 6 t d))
    ∗ (∃ d, owns (c : Thread nD τ) (st7 m t) fullShare ((dats m 0 c).before 7 t d)))

/-- and what it returns. -/
def bodyPost (c : Dev nD) (t : Fin (cfgA m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t)
    ∗ owns (c : Thread nD τ) (st5 m t) fullShare ((dats m 0 c).after 5 t)
    ∗ (dats m 0 c).leavesExact 6 t
    ∗ owns (c : Thread nD τ) (st7 m t) fullShare ((dats m 0 c).after 7 t))

/-- The query rows the body leaves in its scratch are the first point's. -/
theorem qfOut_eq (c : Dev nD) (t : Fin (cfgA m).N) (f : Vec F S2176x160 .bf16) (hf : t.val ≠ 0 → f = qfV m c) :
    qfOut (grid0.coords t) (iblk m c 2 t) (iblk m c 3 t) f = qfV m c := by
  unfold qfOut
  by_cases h : t.val = 0
  · rw [if_pos ((cond1_iff t).mpr h)]
    obtain rfl : t = ⟨0, Nat.lt_of_lt_of_eq (by norm_num) N_0.symm⟩ := Fin.ext h
    rfl
  · rw [if_neg fun e => h ((cond1_iff t).mp e)]; exact hf h

/-- The accumulator the body leaves in its scratch is the next point's. -/
theorem accOut_eq (c : Dev nD) (t : Fin (cfgA m).N) (f : Vec F S160x2176 .f32) (hf : t.val ≠ 0 → f = accAt m c t.val) :
    accOut (grid0.coords t) (wordAt (grid0.coords t) (x1 m c)) (wordAt (grid0.coords t) (x2 m c)) (hwAt m c (grid0.coords t)) (x3 m c) (iblk m c 0 t) (iblk m c 1 t)
      (iblk m c 4 t) (iblk m c 5 t) f = accAt m c (t.val + 1) := by
  have e : accIn (grid0.coords t) f = accAt m c t.val := by
    unfold accIn
    by_cases h : t.val = 0
    · rw [if_pos ((cond1_iff t).mpr h), h, accAt]
    · rw [if_neg fun e => h ((cond1_iff t).mp e)]; exact hf h
  unfold accOut
  rw [e, accAt, dif_pos t.isLt]

/-- The first result's block at a point that is not the last is handed back as it was found, -/
theorem leaves6_ne (c : Dev nD) (t : Fin (cfgA m).N) (h : t.val ≠ 1427) :
    (dats m 0 c).leavesExact 6 t = iprop(∃ d, owns (c : Thread nD τ) (st6 m t) fullShare ((dats m 0 c).before 6 t d)) := by
  refine (dats m 0 c).leavesExact_idle 6 t ?_ ?_
  · show (!(k0_cond2 (grid0.coords t) == 1#1)) = true
    rw [Bool.not_eq_true', beq_eq_false_iff_ne]
    exact fun e => h ((cond2_iff t).mp e)
  · rw [Bool.eq_false_iff]
    intro e
    have h1 := (flush6 m t).mp e
    have h2 : t.val < 1428 := Nat.lt_of_lt_of_eq t.isLt N_0
    omega
/-- and at the last point holds the accumulator, rounded. -/
theorem leaves6_last (c : Dev nD) (t : Fin (cfgA m).N) (h : t.val = 1427) :
    (dats m 0 c).leavesExact 6 t = owns (c : Thread nD τ) (st6 m t) fullShare (k0_pay7 (accAt m c (t.val + 1))) := by
  rw [← after6]
  unfold Dat.leavesExact
  rw [show (cfgA m).idle 6 ((cfgA m).grid.coords t) = false from by
    show (!(k0_cond2 (grid0.coords t) == 1#1)) = false
    rw [Bool.not_eq_false', beq_iff_eq]; exact (cond2_iff t).mpr h]

/-- So what the body leaves there is what the pipeline asks for. -/
theorem leaves6_of (c : Dev nD) (t : Fin (cfgA m).N) (d) :
    owns (c : Thread nD τ) (st6 m t) fullShare (if k0_cond2 (grid0.coords t) = 1#1 then (k0_pay7 (accAt m c (t.val + 1)) : Vec F S160x2176 .bf16) else (dats m 0 c).before 6 t d)
      ⊢ (dats m 0 c).leavesExact 6 t := by
  have this : ∀ X Y, X = Y → (owns (c : Thread nD τ) (st6 m t) fullShare X : sProp 𝕄) ⊢ owns (c : Thread nD τ) (st6 m t) fullShare Y := by
    rintro X _ rfl; exact .rfl
  by_cases h : t.val = 1427
  · rw [leaves6_last m c t h]
    exact this _ _ (if_pos ((cond2_iff t).mpr h))
  · rw [leaves6_ne m c t h]
    refine (this _ _ (if_neg fun e => h ((cond2_iff t).mp e))).trans ?_
    iintro H; iexists d; iexact H

set_option maxHeartbeats 1600000 in
/-- The body at any point: the inputs' buffers hold their blocks and the scratch what the invariant says, so the body's
    triple applies; it leaves the scratch as the invariant at the next point says. -/
theorem sound_body (c : Dev nD) (t : Fin (cfgA m).N) :
    bodyPre m c t ⊢ wp Idealize.ShloMosaic.frame (wpE (defs₀ (F := F)) Variants.none c none) Set.univ (bodyAt m t) (fun _ => bodyPost m c t) := by
  unfold bodyPre bodyPost bodyAt
  simp only [before0, before1, before2, before3, before4, before5]
  rw [show (dats m 0 c).Φ t.castSucc = Inv m c t.val from rfl, show (dats m 0 c).Φ t.succ = Inv m c (t.val + 1) from rfl,
    show (dats m 0 c).owesAt () t.succ = (dats m 0 c).owesAt () t.castSucc from rfl, after0, after1, after2, after3, after4, after5, after7]
  unfold Inv
  rw [tables_eq]
  simp only [← owns_whole]
  iintro ⟨⟨⟨T1, T2, T3⟩, Hg, ⟨%f0, S0, %e0⟩, ⟨%f1, S1, %e1⟩, ⟨%f2, S2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ fullShare.right (grid0.coords t) _ _ _ _ _ _ _ _ _ _ _ _ _ _ _ _ _ _ _ _ _ _ _ _ _ _ _ _
    (x1 m c) (x2 m c) (x3 m c) (iblk m c 0 t) (iblk m c 1 t) (iblk m c 2 t) (iblk m c 3 t) (iblk m c 4 t) (iblk m c 5 t) ((dats m 0 c).before 6 t d6) f0 f1 (hwAt m c (grid0.coords t)) _)
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexists _; iexact S2
  rw [qfOut_eq m c t f0 e0, accOut_eq m c t f1 e1]
  iintro ⟨T1, T2, T3, H0, H1, H2, H3, H4, H5, H6, H7, S0, S1, ⟨%f2', S2⟩⟩
  isplitl [T1 T2 T3 Hg S0 S1 S2]
  · isplitl [T1 T2 T3]
    · isplitl [T1]; · iexact T1
      isplitl [T2]; · iexact T2
      iexact T3
    isplitl [Hg]; · iexact Hg
    isplitl [S0]
    · iexists _; isplitl [S0]; · iexact S0
      ipureintro; exact fun _ => rfl
    isplitl [S1]
    · iexists _; isplitl [S1]; · iexact S1
      ipureintro; exact fun _ => rfl
    iexists _; iexact S2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6_of m c t d6); iexact H6
  iexact H7

/-- The body table's row at a point's slots is the body at that point. -/
theorem defs₀_row (t : Fin (cfgA m).N) :
    defs₀ (F := F) .tc (cfgA m).body ((cfgA m).bodyArgs t ((cfgA m).slots t)) = bodyAt m t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The host lines around the kernel -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 1600000 in
/-- The program is the host lines before the kernel, the kernel, and the host lines after it. -/
theorem hmain (𝒱₀ : Variants) : Pipeline.HMainPK (Ix := Unit) (Name := ℕ) (U := UR sig nD τ) (Lvl := ℕ) pcfgs 0 defs₀ 𝒱₀ m (main (F := F)) (fun c b => V0 m c (Proc.devRef .tc b))
      (fun _ => Pipeline.chain ([hostOps1].map StableHlo.seq)) :=
  Pipeline.hmainP_around pcfgs 0 defs₀ 𝒱₀ m main preOps [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The lines after the kernel touch no table, -/
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl
  all_goals
    intro k
    fin_cases k <;> simp only [StableHlo.unary_bufs, StableHlo.reshape_bufs, Finset.mem_insert, Finset.mem_singleton, not_or] <;>
      exact ⟨StableHlo.devRef_ne_of_ne (by decide), StableHlo.devRef_ne_of_ne (by decide)⟩
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and write no array of the pipeline. -/
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The run -/

/-- What the launch hands the pipeline is the invariant before the first point, -/
theorem inv_in (c : Dev nD) : iprop(Pipeline.ΦA spec0 c ∗ Pipeline.ΦT pre0 (tbl m) c) ⊢ (dats m 0 c).Φ 0 := by
  rw [show (dats m 0 c).Φ 0 = Inv m c 0 from rfl]
  unfold Inv Pipeline.ΦA
  rw [scopedRest0_eq]
  iintro ⟨⟨⟨⟨%f0, S0⟩, ⟨%f1, S1⟩, ⟨%f2, S2⟩⟩, Hg⟩, HT⟩
  isplitl [HT]; · iexact HT
  isplitl [Hg]; · iexact Hg
  isplitl [S0]
  · iexists f0; isplitl [S0]; · iexact S0
    ipureintro; exact fun h => absurd rfl h
  isplitl [S1]
  · iexists f1; isplitl [S1]; · iexact S1
    ipureintro; exact fun h => absurd rfl h
  iexists f2; iexact S2
/-- and the invariant after the last point holds what the launch takes back. -/
theorem inv_out (c : Dev nD) : (dats m 0 c).Φ (Fin.last (cfgA m).N) ⊢ Pipeline.ΦA spec0 c := by
  rw [show (dats m 0 c).Φ (Fin.last (cfgA m).N) = Inv m c (cfgA m).N from rfl]
  unfold Inv Pipeline.ΦA
  rw [scopedRest0_eq]
  iintro ⟨-, Hg, ⟨%f0, S0, -⟩, ⟨%f1, S1, -⟩, ⟨%f2, S2⟩⟩
  isplitr [Hg]
  · isplitl [S0]; · iexists f0; iexact S0
    isplitl [S1]; · iexists f1; iexact S1
    iexists f2; iexact S2
  iexact Hg

/-- What every buffer holds after the whole program, read at a reference. -/
abbrev W (c : Dev nD) (b : Ref sig .tc) : Buf (Elt F) ((c : Thread nD τ).loc b) := Pipeline.afterTail pcfgs (adm m) (dats m) 0 (V0 m) [hostOps1] c b

set_option backward.isDefEq.respectTransparency.types false in
set_option maxHeartbeats 1600000 in
/-- The run: it ends, the pipeline's arrays at what the proof data say, every other buffer as the host lines leave it, and
    every counter at zero. -/
theorem run_main_quiescent : θ_run defs (onTc (τ := τ) (main (F := F))) (s₀ m ρ)
    (fun r => Pipeline.FramePost (Pipeline.pin pcfgs (adm m)) (dats m) 0 (Pipeline.afterTail pcfgs (adm m) (dats m) 0 (V0 m) [hostOps1]) r ∧ r.2.sem = fun _ => 0) :=
  Pipeline.θ_run_frameP_around_track (Q' := _) pcfgs (adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun c k => by obtain rfl : c = 0 := Subsingleton.elim _ _; rfl)
    (hin := inv_in m) (hout := inv_out m)

end Cert.KernelIdeal.Hand

end
-- ==== Proof.KiQuiet.lean ====
/-
  The frame of the kernel: from any memory the program ends, its arguments unchanged and every counter at zero, at any
  reading of the floating-point operations.
-/
module

public import proofs.«01_k».proof.Proof.KiRun

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host lines before the kernel write. -/
def preWritten : List (Ref sig .tc) := [main_call0_c, main_call0_v0, main_v0, main_v1, main_v2, main_c, main_v3, main_v4, main_call1_call0_v0, main_call1_call0_v1, main_call1_call0_v2, main_call1_call0_v3, main_call1_call0_v4, main_call1_call0_v5, main_call1_call0_c, main_v5, main_c_0, main_v6, main_v7, main_call2_call0_v0, main_call2_call0_v1, main_call2_call0_v2, main_call2_call0_v3, main_call2_call0_v4, main_call2_call0_v5, main_call2_call0_c, main_v8, main_v9, main_v10, main_v11, main_v12, main_v13, main_v14, main_v15, main_v16, main_v17]

set_option maxHeartbeats 1600000 in
/-- A buffer they do not write is found by the kernel as launched. -/
theorem V_of_not_written (c : Dev nD) (b : Ref sig .tc) (hb : b ∉ preWritten) : V m c b = m ((c : Thread nD τ).loc b) := by
  unfold V V0 preOps
  rw [StableHlo.after_of_forall_not_mem (b := Proc.devRef .tc b) _ _ (List.forall_iff_forall_mem.mp (by
      simp only [hostOps0, hostOps0_1, hostOps0_2, hostOps0_3, hostOps0_4, hostOps0_5, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by rintro rfl; exact hb (by decide))))]

/-- A buffer no host line and no window writes ends as launched. -/
theorem W_of_not_written (c : Dev nD) (b : Ref sig .tc) (hb : b ∉ preWritten) (h19 : b ≠ main_v19) (h20 : b ≠ main_v20) (hw : ∀ w, Pipeline.arrRef spec0 w ≠ b) :
    W m c b = m ((c : Thread nD τ).loc b) := by
  unfold W Pipeline.afterTail
  rw [StableHlo.after_of_forall_not_mem (b := Proc.devRef .tc b) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne h19, StableHlo.devRef_ne_of_ne h20⟩)),
    Pipeline.withArrays_of_ne _ c (V0 m c) _ b hw]
  exact V_of_not_written m c b hb

/-- At a final state of the run every argument holds what it was launched with. -/
theorem args_of (r : PUnit × MemSt nD τ sig (Elt F))
    (h : Pipeline.FramePost (Pipeline.pin pcfgs (adm m)) (dats m) 0 (Pipeline.afterTail pcfgs (adm m) (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have rest : ∀ b : Ref sig .tc, b.isScoped = false → b ∉ preWritten → b ≠ main_v19 → b ≠ main_v20 → (∀ w, Pipeline.arrRef spec0 w ≠ b) →
      r.2.mem ((c.tc : Thread nD τ).loc b) = m ((c.tc : Thread nD τ).loc b) := fun b hs hb h19 h20 hw =>
    ((h c).2 b (Pipeline.mem_restRefs_of b hs hw)).trans (W_of_not_written m c b hb h19 h20 hw)
  refine ⟨rest _ rfl (by decide) (by decide) (by decide) (by decide), rest _ rfl (by decide) (by decide) (by decide) (by decide), ?_,
    rest _ rfl (by decide) (by decide) (by decide) (by decide), rest _ rfl (by decide) (by decide) (by decide) (by decide),
    rest _ rfl (by decide) (by decide) (by decide) (by decide), rest _ rfl (by decide) (by decide) (by decide) (by decide)⟩
  exact ((h c).1 4).trans (((dats m 0 c).arrAt_in 4 rfl _).trans ((A_eq m c 4).trans (V_of_not_written m c main_arg2 (by decide))))

/-- The frame: the program ends, its arguments unchanged, every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m r h.1 c, h.2⟩) (run_main_quiescent m ρ)

end Cert.KernelIdeal.Hand

end
-- ==== Proof.KiPay.lean ====
/-
  What one trip of the kernel's loop computes over the exact numbers, entry by entry: the selection matrix of a document,
  its product with the query rows, and the scaled rows of the block times it.
-/
module

public import proofs.«01_k».proof.Proof.KiFrame
public import Idealize.ShloMosaic.Lib.MatmulPlain
public import Idealize.ShloMosaic.Lib.ValueLayout
public import Idealize.ShloMosaic.Lib.ValueIdx

@[expose] public section

set_option maxRecDepth 16384

noncomputable section

namespace Cert.KernelIdeal.Hand

open Cert.KernelIdeal.Gen
open Idealize.ShloMosaic hiding ix0 ix1 ix2 ix3 ix4 ix5
open Idealize.ShloMosaic.TcCoe Idealize.ShloMosaic.ValueIdx

/-- The query rows: a code times its row's scale. -/
theorem pay1_apply (x : Vec Ideal S2176x160 .fp8e4m3) (s : Vec Ideal S2176x1 .f32) (k : Fin 2176) (c : Fin 160) :
    k0_pay1 (F := Ideal) x s (ix2 k c) = (x (ix2 k c) * s (ix2 k (0 : Fin 1)) : EReal) := by
  unfold k0_pay1
  simp only [Idealize.ShloMosaic.shapeCast_self]
  show (x (ix2 k c) : EReal) * broadcastTo S2176x160 s broadcasts_S2176x1_S2176x160 (ix2 k c) = _
  rw [Idealize.ShloMosaic.broadcastTo_apply s _ (ix2 k c) (ix2 k (0 : Fin 1)) (fun a => by fin_cases a <;> rfl)]

/-- The two accumulators start at zero. -/
theorem pay2_apply (j : S160x2176.Idx) : k0_pay2 (F := Ideal) j = (0 : EReal) := by
  unfold k0_pay2
  simp only [Idealize.ShloMosaic.shapeCast_self]
  exact Ideal.ofBits_zero_f32
theorem pay3_apply (j : S256x160.Idx) : k0_pay3 (F := Ideal) j = (0 : EReal) := by
  unfold k0_pay3
  simp only [Idealize.ShloMosaic.shapeCast_self]
  exact Ideal.ofBits_zero_f32

/-- The selection matrix of a document: a position's weight in the row of the block the position stands for, zero
    elsewhere. -/
theorem pay8_apply (g : BitVec 32) (xi : Vec Ideal S1x2176 .i32) (xw : Vec Ideal S1x2176 .f32) (st : BitVec 32) (r : Fin 256) (k : Fin 2176) :
    k0_pay8 (F := Ideal) g xi xw st (ix2 r k)
      = (if BitVec.ofNat 32 r.val = (xi (ix2 (0 : Fin 1) k) : BitVec 32) + (st - g * 256#32) then xw (ix2 (0 : Fin 1) k) else (0 : EReal)) := by
  unfold k0_pay8
  simp only [Idealize.ShloMosaic.shapeCast_self]
  show Scalar.select (IntOp.cmpi .eq (iota .tc S256x2176 32 [0] iota_S256x2176_d0_w32 (ix2 r k))
      (broadcastTo S256x2176 (addi xi (broadcast S1x2176 (Scalar.subi st (Scalar.muli g 256#32)))) broadcasts_S1x2176_S256x2176 (ix2 r k)))
      (broadcastTo S256x2176 xw broadcasts_S1x2176_S256x2176 (ix2 r k)) (Ideal.ofBits .f32 0x00000000#32) = _
  rw [broadcastTo_1b_ab_apply, broadcastTo_1b_ab_apply, WordCmp.iota_at,
    show (List.foldl (fun n a => n * S256x2176.size a + ((ix2 r k : S256x2176.Idx) a).val) 0 [0]) = r.val from by simp,
    WordCmp.cmpi_eq_eq, WordCmp.select_ofBool, Ideal.ofBits_zero_f32]
  simp only [decide_eq_true_eq]
  rfl

/-- One trip's document product: the rows of the block gain the selected, weighted query rows. -/
theorem pay9_apply (g : BitVec 32) (xi : Vec Ideal S1x2176 .i32) (xw : Vec Ideal S1x2176 .f32) (st : BitVec 32)
    (dd : Vec Ideal S256x160 .f32) (qf : Vec Ideal S2176x160 .bf16) (r : Fin 256) (c : Fin 160) :
    k0_pay9 (F := Ideal) g xi xw st dd qf (ix2 r c)
      = (dd (ix2 r c) + ∑ k : Fin 2176, k0_pay8 (F := Ideal) g xi xw st (ix2 r k) * qf (ix2 k c) : EReal) := by
  unfold k0_pay9
  simp only [Idealize.ShloMosaic.shapeCast_self]
  refine congrArg (fun z : EReal => (dd (ix2 r c) : EReal) + z) ?_
  refine (Ideal.matmul_plain_apply (M := 256) (K := 2176) (N := 160) none (k0_pay8 (F := Ideal) g xi xw st) qf _ r c).trans ?_
  rw [show (constant (F := Ideal) S256x160 .f32 0x00000000#32 (ix2 r c) : EReal) = 0 from Ideal.ofBits_zero_f32, zero_add]

/-- One trip's query product: the accumulator gains the scaled rows of the block times the selection. -/
theorem pay10_apply (g : BitVec 32) (xi : Vec Ideal S1x2176 .i32) (xw : Vec Ideal S1x2176 .f32) (st : BitVec 32)
    (x8 : Vec Ideal S256x160 .fp8e4m3) (x9 : Vec Ideal S1x1x256 .f32) (acc : Vec Ideal S160x2176 .f32) (c : Fin 160) (k : Fin 2176) :
    k0_pay4 (k0_pay10 (F := Ideal) g xi xw st x8 x9 acc) (ix2 c k)
      = (acc (ix2 c k) + ∑ r : Fin 256, (x8 (ix2 r c) * x9 (ix3 (0 : Fin 1) (0 : Fin 1) r)) * k0_pay8 (F := Ideal) g xi xw st (ix2 r k) : EReal) := by
  unfold k0_pay4 k0_pay10
  simp only [Idealize.ShloMosaic.shapeCast_self]
  refine congrArg (fun z : EReal => (acc (ix2 c k) : EReal) + z) ?_
  refine (Ideal.matmul_plain_apply (M := 160) (K := 256) (N := 2176) none _ (k0_pay8 (F := Ideal) g xi xw st) _ c k).trans ?_
  rw [show (constant (F := Ideal) S160x2176 .f32 0x00000000#32 (ix2 c k) : EReal) = 0 from Ideal.ofBits_zero_f32, zero_add]
  refine Finset.sum_congr rfl fun r _ => ?_
  refine congrArg (fun z : EReal => z * (k0_pay8 (F := Ideal) g xi xw st (ix2 r k) : EReal)) ?_
  refine congrArg₂ (fun a b : EReal => a * b) ?_ ?_
  · exact transpose_ix2_apply _ _ c r
  · refine (broadcastTo_1b_ab_apply _ _ c r).trans ?_
    exact shapeCast_1ab_ab_apply _ _ (0 : Fin 1) r

end Cert.KernelIdeal.Hand

end
-- ==== Proof.KiTrip.lean ====
/-
  The kernel's loop at one grid point over the exact numbers: the two accumulators after it are what they were plus the
  sums of the trips' products, a trip for each document from the first count to the second.
-/
module

public import proofs.«01_k».proof.Proof.KiPay

@[expose] public section

set_option maxRecDepth 16384

noncomputable section

namespace Cert.KernelIdeal.Hand

open Cert.KernelIdeal.Gen
open Idealize.ShloMosaic hiding ix0 ix1 ix2 ix3 ix4 ix5
open Idealize.ShloMosaic.TcCoe Idealize.ShloMosaic.ValueIdx

/-- A load through a unit-stride rectangle reads the contents at any index with the offset coordinates. -/
theorem ld_at {S : Shape} {e : EltTy} (X : S.Idx → Elt Ideal e) (off size : Fin S.rank → Nat) (inb) (x : (Rect.unit off size inb).shape.Idx)
    (i : S.Idx) (hi : ∀ a, (i a : Nat) = off a + x a) : View.ld X (Rect.unit off size inb) x = X i :=
  congrArg X (funext fun a => Fin.ext ((congrArg (off a + ·) (Nat.one_mul (x a).val)).trans (hi a).symm))

/-- The selection matrix of document `d`, entry by entry (zero past the last document). -/
def selN (g : BitVec 32) (x3 : Vec Ideal S408 .i32) (x4 : Vec Ideal S408x2176 .i32) (x5 : Vec Ideal S408x2176 .f32) (d : ℕ) (r : Fin 256) (k : Fin 2176) : EReal :=
  if h : d < 408 then
    (if BitVec.ofNat 32 r.val = (x4 (ix2 ⟨d, h⟩ k) : BitVec 32) + ((x3 (ix1 ⟨d, h⟩) : BitVec 32) - g * 256#32) then x5 (ix2 ⟨d, h⟩ k) else (0 : EReal))
  else 0

section

variable (i : grid0.Coords) (a b : ℕ) (ha : a ≤ 408) (hb : b ≤ 408) (hw : k0_chk1 (BitVec.ofNat 32 a) (BitVec.ofNat 32 b))
  (x3 : Vec Ideal S408 .i32) (x4 : Vec Ideal S408x2176 .i32) (x5 : Vec Ideal S408x2176 .f32)

include ha hb in
/-- The selection matrix of a trip is the document's the trip is for. -/
theorem pay8_trip (n : Fin (k0_t1_loop (BitVec.ofNat 32 a) (BitVec.ofNat 32 b)).trips) (r : Fin 256) (k : Fin 2176) :
    k0_pay8 (F := Ideal) (gw i) (rowI _ _ hw x4 n) (rowW _ _ hw x5 n) (startW _ _ hw x3 n) (ix2 r k) = selN (gw i) x3 x4 x5 (a + n.val) r k := by
  have hn : a + n.val < 408 := by
    have := lt_of_lt_of_eq n.isLt (t1_trips a b ha hb); omega
  have ev : (Scalar.indexCast (Scf.iv (BitVec.ofNat 32 a) 1#32 n.val)).toNat = a + n.val := iv_toNat a n.val (by omega)
  rw [pay8_apply]
  unfold selN
  rw [dif_pos hn]
  have e4 : rowI _ _ hw x4 n (ix2 (0 : Fin 1) k) = x4 (ix2 ⟨a + n.val, hn⟩ k) := by
    refine ld_at x4 _ _ _ _ _ fun ax => ?_
    fin_cases ax
    · show a + n.val = (Scalar.indexCast (Scf.iv (BitVec.ofNat 32 a) 1#32 n.val)).toNat + 0
      omega
    · show k.val = (0 : ℕ) + k.val
      omega
  have e5 : rowW _ _ hw x5 n (ix2 (0 : Fin 1) k) = x5 (ix2 ⟨a + n.val, hn⟩ k) := by
    refine ld_at x5 _ _ _ _ _ fun ax => ?_
    fin_cases ax
    · show a + n.val = (Scalar.indexCast (Scf.iv (BitVec.ofNat 32 a) 1#32 n.val)).toNat + 0
      omega
    · show k.val = (0 : ℕ) + k.val
      omega
  have e3 : startW _ _ hw x3 n = x3 (ix1 ⟨a + n.val, hn⟩) := by
    refine ld_at x3 _ _ _ _ _ fun ax => ?_
    fin_cases ax
    have h0 : ((one0 (0 : Fin 1)).val : ℕ) = 0 := by
      have := (one0 (0 : Fin 1)).isLt
      exact Nat.lt_one_iff.1 this
    show a + n.val = (Scalar.indexCast (Scf.iv (BitVec.ofNat 32 a) 1#32 n.val)).toNat + (one0 (0 : Fin 1)).val
    omega
  rw [e3, e4, e5]

include ha hb in
/-- The query accumulator after the first trips. -/
theorem accV_sum (x8 : Vec Ideal S256x160 .fp8e4m3) (x9 : Vec Ideal S1x1x256 .f32) (a0 : Vec Ideal S160x2176 .f32) (c : Fin 160) (k : Fin 2176) (n : ℕ) (hn : n ≤ b - a) :
    accV i _ _ hw x3 x4 x5 x8 x9 a0 n (ix2 c k)
      = (a0 (ix2 c k) + ∑ j ∈ Finset.range n, ∑ r : Fin 256, (x8 (ix2 r c) * x9 (ix3 (0 : Fin 1) (0 : Fin 1) r)) * selN (gw i) x3 x4 x5 (a + j) r k : EReal) := by
  induction n with
  | zero => rw [Finset.sum_range_zero, add_zero]; rfl
  | succ n ih =>
    have hlt : n < (k0_t1_loop (BitVec.ofNat 32 a) (BitVec.ofNat 32 b)).trips := by rw [t1_trips a b ha hb]; omega
    rw [accV, dif_pos hlt, Finset.sum_range_succ, ← add_assoc, ← ih (by omega)]
    refine (pay10_apply _ _ _ _ _ _ _ c k).trans ?_
    refine congrArg (fun z : EReal => (accV i _ _ hw x3 x4 x5 x8 x9 a0 n (ix2 c k) : EReal) + z) (Finset.sum_congr rfl fun r _ => ?_)
    exact congrArg (fun z : EReal => (x8 (ix2 r c) * x9 (ix3 (0 : Fin 1) (0 : Fin 1) r) : EReal) * z) (pay8_trip i a b ha hb hw x3 x4 x5 ⟨n, hlt⟩ r k)

include ha hb in
/-- The document block's accumulator after the first trips. -/
theorem ddV_sum (qf : Vec Ideal S2176x160 .bf16) (d0 : Vec Ideal S256x160 .f32) (r : Fin 256) (c : Fin 160) (n : ℕ) (hn : n ≤ b - a) :
    ddV i _ _ hw x3 x4 x5 qf d0 n (ix2 r c)
      = (d0 (ix2 r c) + ∑ j ∈ Finset.range n, ∑ k : Fin 2176, selN (gw i) x3 x4 x5 (a + j) r k * qf (ix2 k c) : EReal) := by
  induction n with
  | zero => rw [Finset.sum_range_zero, add_zero]; rfl
  | succ n ih =>
    have hlt : n < (k0_t1_loop (BitVec.ofNat 32 a) (BitVec.ofNat 32 b)).trips := by rw [t1_trips a b ha hb]; omega
    rw [ddV, dif_pos hlt, Finset.sum_range_succ, ← add_assoc, ← ih (by omega)]
    refine (pay9_apply _ _ _ _ _ _ r c).trans ?_
    refine congrArg (fun z : EReal => (ddV i _ _ hw x3 x4 x5 qf d0 n (ix2 r c) : EReal) + z) (Finset.sum_congr rfl fun k _ => ?_)
    exact congrArg (fun z : EReal => z * (qf (ix2 k c) : EReal)) (pay8_trip i a b ha hb hw x3 x4 x5 ⟨n, hlt⟩ r k)

end

/-- A sum over the trips is a sum over all documents where the documents outside the trips add nothing. -/
theorem trips_sum (f : ℕ → EReal) (a b : ℕ) (hb : b ≤ 408) (h0 : ∀ d, d < 408 → ¬ (a ≤ d ∧ d < b) → f d = 0) :
    ∑ j ∈ Finset.range (b - a), f (a + j) = ∑ d : Fin 408, f d.val := by
  rw [← Finset.sum_Ico_eq_sum_range, ← Finset.sum_range (n := 408) f]
  refine Finset.sum_subset (fun d hd => ?_) (fun d hd hnd => h0 d (Finset.mem_range.1 hd) fun h => hnd (Finset.mem_Ico.2 h))
  have := Finset.mem_Ico.1 hd
  exact Finset.mem_range.2 (by omega)

end Cert.KernelIdeal.Hand

end
-- ==== Proof.Words.lean ====
/-
  The words of the documents as numbers: where the documents lie end to end inside the rows and each position lies inside
  its document, the running sums do not wrap, and a document's start and a position's row are the numbers they stand for.
-/
module

public import proofs.«01_k».proof.Pre_indices_in_documents
public import Idealize.ShloMosaic.Lib.WordCmp
public import Idealize.ShloMosaic.Lib.ValueIdx
public import Idealize.ShloMosaic.Lib.Routing.Ops
public import Idealize.ShloMosaic.Lib.Routing.Count

@[expose] public section

set_option maxRecDepth 16384

noncomputable section

namespace Cert.Words

open Idealize.ShloMosaic Idealize.ShloMosaic.ValueIdx

abbrev SL : Shape := ⟨1, ![408]⟩
abbrev SX : Shape := ⟨3, ![68, 408, 32]⟩

variable (L : SL.Idx → BitVec 32) (X : SX.Idx → BitVec 32)

/-- The length of document `d` as a number (zero past the last document). -/
def len (d : ℕ) : ℕ := if h : d < 408 then (L (ix1 ⟨d, h⟩)).toNat else 0
/-- The number of rows the first `d` documents take. -/
def pre (d : ℕ) : ℕ := ((List.range d).map (len L)).sum

theorem pre_zero : pre L 0 = 0 := rfl
theorem pre_succ (d : ℕ) : pre L (d + 1) = pre L d + len L d := by
  unfold pre; rw [List.range_succ, List.map_append, List.sum_append]; simp
theorem pre_mono {a b : ℕ} (h : a ≤ b) : pre L a ≤ pre L b := by
  induction b, h using Nat.le_induction with
  | base => exact le_rfl
  | succ n _ ih => rw [pre_succ]; omega

/-- The running sums' words are those of the numbers. -/
theorem cum_eq (init : (⟨0, ![]⟩ : Shape).Idx → BitVec 32) (hinit : init ix0 = 0#32)
    (h : SL.ReduceWindows (![408] : Fin 1 → Nat) ![1] ![407] ![0] SL) (hu : 0 < (⟨0, ![]⟩ : Shape).numel) :
    Host.reduceWindow IntOp.addi ![408] ![1] ![407] ![0] L init h hu = fun d => BitVec.ofNat 32 (pre L ((d 0).val + 1)) := by
  funext d
  have e : d = ix1 (d 0) := eq_ix1 d
  refine (congrArg _ e).trans ?_
  refine Routing.cumsum1 (N := 408) (Nm1 := 407) rfl L (len L) (fun i => ?_) init hinit h hu (d 0)
  unfold len
  rw [dif_pos i.isLt, BitVec.ofNat_toNat, BitVec.setWidth_eq]

/-- The documents lie end to end inside the rows, and every position lies inside its document. -/
structure Good : Prop where
  total : pre L 408 ≤ 365568
  inside : ∀ (q : Fin 68) (d : Fin 408) (i : Fin 32), (X (ix3 q d i)).toNat < len L d.val

/-- What the precondition says of the words makes them so. -/
theorem good_of (h1 : ∀ q d i, IntOp.cmpi .sge (X (ix3 q d i)) 0#32 = 1#1)
    (h2 : ∀ (q : Fin 68) (d : Fin 408) (i : Fin 32), IntOp.cmpi .slt (X (ix3 q d i)) (L (ix1 d)) = 1#1)
    (h3 : ∀ d : Fin 408, IntOp.cmpi .sle (L (ix1 d)) 365568#32 = 1#1)
    (h4 : ∀ d : Fin 408, IntOp.cmpi .sle (BitVec.ofNat 32 (pre L (d.val + 1))) 365568#32 = 1#1) : Good L X := by
  have hx : ∀ q d i, (X (ix3 q d i)).toNat < 2 ^ 31 := fun q d i => by
    have := h1 q d i
    rw [WordCmp.cmpi_sge_zero, WordCmp.ofBool_decide_eq_one_iff] at this
    exact this
  have hl : ∀ d : Fin 408, (L (ix1 d)).toNat < 2 ^ 31 := fun d => by
    have a := h2 0 d 0
    rw [WordCmp.cmpi_slt_eq, WordCmp.ofBool_decide_eq_one_iff, WordCmp.toInt_eq_toNat_of_lt_half (hx 0 d 0)] at a
    exact (WordCmp.toInt_nonneg_iff_lt_half (L (ix1 d))).1 (by omega)
  have hl' : ∀ d, len L d ≤ 365568 := fun d => by
    unfold len
    split
    · next h =>
      have a := (StableHlo.Predicate.sle_iff_toNat (hl ⟨d, h⟩) (by decide)).1 (h3 ⟨d, h⟩)
      exact a.trans_eq (by decide)
    · omega
  have hp : ∀ d, d ≤ 408 → pre L d ≤ 365568 := fun d => by
    induction d with
    | zero => intro _; rw [pre_zero]; omega
    | succ n ih =>
      intro hn
      have a := h4 ⟨n, hn⟩
      have b := hl' n
      have c := ih (by omega)
      have e := pre_succ L n
      have hlt : pre L (n + 1) < 2 ^ 31 := by omega
      have e' : (BitVec.ofNat 32 (pre L (n + 1))).toNat = pre L (n + 1) := WordCmp.toNat_ofNat_of_lt (by omega)
      have := (StableHlo.Predicate.sle_iff_toNat (by rw [e']; exact hlt) (by decide)).1 a
      rw [e'] at this
      exact this.trans_eq (by decide)
  refine ⟨hp 408 le_rfl, fun q d i => ?_⟩
  have := (StableHlo.Predicate.slt_iff_toNat (hx q d i) (hl d)).1 (h2 q d i)
  unfold len
  rw [dif_pos d.isLt]
  exact this

variable {L X}

theorem Good.pre_le (h : Good L X) {d : ℕ} (hd : d ≤ 408) : pre L d ≤ 365568 := (pre_mono L hd).trans h.total

/-- The row a position stands for: the rows before its document and the position in it. -/
def row (L : SL.Idx → BitVec 32) (X : SX.Idx → BitVec 32) (q : Fin 68) (d : Fin 408) (i : Fin 32) : ℕ := pre L d.val + (X (ix3 q d i)).toNat

theorem Good.row_lt (h : Good L X) (q : Fin 68) (d : Fin 408) (i : Fin 32) : row L X q d i < pre L (d.val + 1) := by
  have := h.inside q d i
  rw [pre_succ]; unfold row; omega

theorem Good.row_lt' (h : Good L X) (q : Fin 68) (d : Fin 408) (i : Fin 32) : row L X q d i < 365568 :=
  (h.row_lt q d i).trans_le (h.pre_le d.isLt)

/-- The word of a document's start: the running sum less the length. -/
theorem start_word (d : Fin 408) : BitVec.ofNat 32 (pre L (d.val + 1)) - L (ix1 d) = BitVec.ofNat 32 (pre L d.val) := by
  have e : L (ix1 d) = BitVec.ofNat 32 (len L d.val) := by
    unfold len; rw [dif_pos d.isLt, BitVec.ofNat_toNat, BitVec.setWidth_eq]
  rw [e, pre_succ, BitVec.ofNat_add, BitVec.add_sub_cancel]

/-- The word of a position's row. -/
theorem row_word (q : Fin 68) (d : Fin 408) (i : Fin 32) :
    BitVec.ofNat 32 (pre L d.val) + X (ix3 q d i) = BitVec.ofNat 32 (row L X q d i) := by
  unfold row
  rw [BitVec.ofNat_add, BitVec.ofNat_toNat, BitVec.setWidth_eq]

/-- A row of a block matches a position exactly when the position's row is that row of the block. -/
theorem match_iff (h : Good L X) (q : Fin 68) (d : Fin 408) (i : Fin 32) (t r : ℕ) (ht : t < 1428) (hr : r < 256) :
    BitVec.ofNat 32 r = X (ix3 q d i) + (BitVec.ofNat 32 (pre L d.val) - BitVec.ofNat 32 t * 256#32) ↔ row L X q d i = 256 * t + r := by
  have e : X (ix3 q d i) + (BitVec.ofNat 32 (pre L d.val) - BitVec.ofNat 32 t * 256#32)
      = BitVec.ofNat 32 (row L X q d i) - BitVec.ofNat 32 (256 * t) := by
    rw [← row_word, show BitVec.ofNat 32 t * 256#32 = BitVec.ofNat 32 (256 * t) from by rw [Nat.mul_comm, ← WordCmp.muli_ofNat]; rfl]
    rw [BitVec.sub_eq_add_neg, BitVec.sub_eq_add_neg, ← BitVec.add_assoc, BitVec.add_comm (X _)]
  have hb := h.row_lt' q d i
  rw [e]
  constructor
  · intro g
    have g' : BitVec.ofNat 32 (r + 256 * t) = BitVec.ofNat 32 (row L X q d i) := by
      rw [BitVec.ofNat_add, g, BitVec.sub_add_cancel]
    have := (WordCmp.ofNat_eq_ofNat_iff (w := 32) (by omega) (by omega)).1 g'
    omega
  · intro g
    rw [g, Nat.add_comm, BitVec.ofNat_add, BitVec.add_sub_cancel]

end Cert.Words

end
-- ==== Proof.KiHost.lean ====
/-
  What the kernel's blocks hold at each grid point over the exact numbers, index by index, in terms of the program's
  arguments: column `32·q + i` of the two position tables is position `i` of query `q`.
-/
module

public import proofs.«01_k».proof.Proof.KiTrip
public import proofs.«01_k».proof.Proof.KiQuiet
public import proofs.«01_k».proof.Proof.Words
public import Idealize.ShloMosaic.Lib.Pipeline.ValueKit

@[expose] public section

set_option maxRecDepth 16384

noncomputable section

namespace Cert.KernelIdeal.Hand

open Cert.KernelIdeal.Gen
open Idealize.ShloMosaic hiding ix0 ix1 ix2 ix3 ix4 ix5
open Idealize.ShloMosaic.TcCoe Idealize.ShloMosaic.ValueIdx Idealize.ShloMosaic.Tactic

variable (m : (ℓ : Loc nD τ sig) → Buf (Elt Ideal) ℓ)

/-! ## The arguments -/

abbrev A0 (c : Dev nD) : Vec Ideal S68x32x160 .fp8e4m3 := m ((c : Thread nD τ).loc main_arg0)
abbrev A1 (c : Dev nD) : Vec Ideal S68x32 .f32 := m ((c : Thread nD τ).loc main_arg1)
abbrev A2 (c : Dev nD) : Vec Ideal S365568x160 .fp8e4m3 := m ((c : Thread nD τ).loc main_arg2)
abbrev A3 (c : Dev nD) : Vec Ideal S365568 .f32 := m ((c : Thread nD τ).loc main_arg3)
abbrev A5 (c : Dev nD) : Vec Ideal S68x408x32 .i32 := m ((c : Thread nD τ).loc main_arg5)
abbrev A6 (c : Dev nD) : Vec Ideal S68x408 .bf16 := m ((c : Thread nD τ).loc main_arg6)

/-- The column of position `i` of query `q`. -/
def kk (q : Fin 68) (i : Fin 32) : Fin 2176 := ⟨q.val * 32 + i.val, by omega⟩

/-! ## The arrays the blocks are cut from -/

theorem V_v10 (c : Dev nD) (d : Fin 408) (q : Fin 68) (i : Fin 32) :
    (V m c main_v10 : S408x2176.Idx → BitVec 32) (ix2 d (kk q i)) = A5 m c (ix3 q d i) := by
  unfold V V0 preOps
  simp only [List.flatten_cons, List.flatten_nil, List.append_nil, List.cons_append, List.nil_append]
  after_reads_simp
  refine (Idealize.ShloMosaic.shapeCast_apply _ _ (ix2 d (kk q i)) (ix3 d q i) ?_).trans ?_
  · rw [Shape.rowMajor_val_three, Shape.rowMajor_val_two]
    show (d.val * 68 + q.val) * 32 + i.val = d.val * 2176 + (q.val * 32 + i.val)
    ring
  · exact Idealize.ShloMosaic.transpose_apply _ _ _ (ix3 d q i) (ix3 q d i) (fun a => by fin_cases a <;> rfl)

theorem V_v14 (c : Dev nD) (d : Fin 408) (q : Fin 68) (i : Fin 32) :
    (V m c main_v14 : S408x2176.Idx → EReal) (ix2 d (kk q i)) = (A6 m c (ix2 q d) : EReal) := by
  unfold V V0 preOps
  simp only [List.flatten_cons, List.flatten_nil, List.append_nil, List.cons_append, List.nil_append]
  after_reads_simp
  refine (Idealize.ShloMosaic.shapeCast_apply _ _ (ix2 d (kk q i)) (ix3 d q i) ?_).trans ?_
  · rw [Shape.rowMajor_val_three, Shape.rowMajor_val_two]
    show (d.val * 68 + q.val) * 32 + i.val = d.val * 2176 + (q.val * 32 + i.val)
    ring
  refine (Idealize.ShloMosaic.broadcastInDim_apply _ _ _ (ix3 d q i) (ix2 d q) (fun a => by fin_cases a <;> rfl)).trans ?_
  exact Idealize.ShloMosaic.transpose_apply _ _ _ (ix2 d q) (ix2 q d) (fun a => by fin_cases a <;> rfl)

theorem V_v15 (c : Dev nD) (q : Fin 68) (i : Fin 32) (j : Fin 160) :
    (V m c main_v15 : S2176x160.Idx → EReal) (ix2 (kk q i) j) = (A0 m c (ix3 q i j) : EReal) := by
  unfold V V0 preOps
  simp only [List.flatten_cons, List.flatten_nil, List.append_nil, List.cons_append, List.nil_append]
  after_reads_simp
  refine Idealize.ShloMosaic.shapeCast_apply _ _ (ix2 (kk q i) j) (ix3 q i j) ?_
  rw [Shape.rowMajor_val_three, Shape.rowMajor_val_two]
  rfl

theorem V_v16 (c : Dev nD) (q : Fin 68) (i : Fin 32) :
    (V m c main_v16 : S2176x1.Idx → EReal) (ix2 (kk q i) (0 : Fin 1)) = (A1 m c (ix2 q i) : EReal) := by
  unfold V V0 preOps
  simp only [List.flatten_cons, List.flatten_nil, List.append_nil, List.cons_append, List.nil_append]
  after_reads_simp
  refine Idealize.ShloMosaic.shapeCast_apply _ _ (ix2 (kk q i) (0 : Fin 1)) (ix2 q i) ?_
  rw [Shape.rowMajor_val_two, Shape.rowMajor_val_two]
  show q.val * 32 + i.val = (q.val * 32 + i.val) * 1 + 0
  omega

theorem V_v17 (c : Dev nD) (t : Fin 1428) (r : Fin 256) :
    (V m c main_v17 : S1428x1x256.Idx → EReal) (ix3 t (0 : Fin 1) r) = (A3 m c (ix1 ⟨t.val * 256 + r.val, by omega⟩) : EReal) := by
  unfold V V0 preOps
  simp only [List.flatten_cons, List.flatten_nil, List.append_nil, List.cons_append, List.nil_append]
  after_reads_simp
  refine Idealize.ShloMosaic.shapeCast_apply _ _ (ix3 t (0 : Fin 1) r) (ix1 ⟨t.val * 256 + r.val, by omega⟩) ?_
  rw [Shape.rowMajor_val_one, Shape.rowMajor_val_three]
  show t.val * 256 + r.val = (t.val * 1 + 0) * 256 + r.val
  omega

/-! ## The blocks -/

theorem idx_0 : ∀ (t : Fin grid0.N) (a : Fin 2), cc0_transform_0 (grid0.coords t) a = 0 := by decide +kernel
theorem idx_1 : ∀ (t : Fin grid0.N) (a : Fin 2), cc0_transform_1 (grid0.coords t) a = 0 := by decide +kernel
theorem idx_2 : ∀ (t : Fin grid0.N) (a : Fin 2), cc0_transform_2 (grid0.coords t) a = 0 := by decide +kernel
theorem idx_3 : ∀ (t : Fin grid0.N) (a : Fin 2), cc0_transform_3 (grid0.coords t) a = 0 := by decide +kernel
theorem idx_4 : ∀ t : Fin grid0.N, cc0_transform_4 (grid0.coords t) 0 = t.val ∧ cc0_transform_4 (grid0.coords t) 1 = 0 := by decide +kernel
theorem idx_5 : ∀ t : Fin grid0.N, cc0_transform_5 (grid0.coords t) 0 = t.val ∧ cc0_transform_5 (grid0.coords t) 1 = 0 ∧ cc0_transform_5 (grid0.coords t) 2 = 0 := by decide +kernel
theorem idx_7 : ∀ t : Fin grid0.N, cc0_transform_7 (grid0.coords t) 0 = t.val ∧ cc0_transform_7 (grid0.coords t) 1 = 0 := by decide +kernel
theorem coord_val : ∀ t : Fin grid0.N, (grid0.coords t 0).val = t.val := by decide +kernel

/-- The position table's block is the table. -/
theorem iblk0_at (c : Dev nD) (t : Fin (cfgA m).N) (d : Fin 408) (q : Fin 68) (i : Fin 32) :
    (iblk m c 0 t : Vec Ideal S408x2176 .i32) (ix2 d (kk q i)) = A5 m c (ix3 q d i) := by
  have h0 := idx_0 t 0
  have h1 := idx_0 t 1
  refine Eq.trans (congrArg (V m c main_v10 : S408x2176.Idx → BitVec 32) (funext fun a => Fin.ext ?_)) (V_v10 m c d q i)
  fin_cases a
  · show cc0_transform_0 (grid0.coords t) 0 * 408 + 1 * d.val = d.val
    rw [h0]; omega
  · show cc0_transform_0 (grid0.coords t) 1 * 2176 + 1 * (kk q i).val = (kk q i).val
    rw [h1]; omega

/-- The weight table's block is the table. -/
theorem iblk1_at (c : Dev nD) (t : Fin (cfgA m).N) (d : Fin 408) (q : Fin 68) (i : Fin 32) :
    (iblk m c 1 t : Vec Ideal S408x2176 .f32) (ix2 d (kk q i)) = (A6 m c (ix2 q d) : EReal) := by
  have h0 := idx_1 t 0
  have h1 := idx_1 t 1
  refine Eq.trans (congrArg (V m c main_v14 : S408x2176.Idx → EReal) (funext fun a => Fin.ext ?_)) (V_v14 m c d q i)
  fin_cases a
  · show cc0_transform_1 (grid0.coords t) 0 * 408 + 1 * d.val = d.val
    rw [h0]; omega
  · show cc0_transform_1 (grid0.coords t) 1 * 2176 + 1 * (kk q i).val = (kk q i).val
    rw [h1]; omega

/-- The query codes' block is the array. -/
theorem iblk2_at (c : Dev nD) (t : Fin (cfgA m).N) (q : Fin 68) (i : Fin 32) (j : Fin 160) :
    (iblk m c 2 t : Vec Ideal S2176x160 .fp8e4m3) (ix2 (kk q i) j) = (A0 m c (ix3 q i j) : EReal) := by
  have h0 := idx_2 t 0
  have h1 := idx_2 t 1
  refine Eq.trans (congrArg (V m c main_v15 : S2176x160.Idx → EReal) (funext fun a => Fin.ext ?_)) (V_v15 m c q i j)
  fin_cases a
  · show cc0_transform_2 (grid0.coords t) 0 * 2176 + 1 * (kk q i).val = (kk q i).val
    rw [h0]; omega
  · show cc0_transform_2 (grid0.coords t) 1 * 160 + 1 * j.val = j.val
    rw [h1]; omega

/-- The query scales' block is the array. -/
theorem iblk3_at (c : Dev nD) (t : Fin (cfgA m).N) (q : Fin 68) (i : Fin 32) :
    (iblk m c 3 t : Vec Ideal S2176x1 .f32) (ix2 (kk q i) (0 : Fin 1)) = (A1 m c (ix2 q i) : EReal) := by
  have h0 := idx_3 t 0
  have h1 := idx_3 t 1
  refine Eq.trans (congrArg (V m c main_v16 : S2176x1.Idx → EReal) (funext fun a => Fin.ext ?_)) (V_v16 m c q i)
  fin_cases a
  · show cc0_transform_3 (grid0.coords t) 0 * 2176 + 1 * (kk q i).val = (kk q i).val
    rw [h0]; omega
  · show cc0_transform_3 (grid0.coords t) 1 * 1 + 1 * 0 = 0
    rw [h1]

theorem lt_N (t : Fin (cfgA m).N) : t.val < 1428 := lt_of_lt_of_eq t.isLt N_0

/-- The document codes' block at a point is the point's rows. -/
theorem iblk4_at (c : Dev nD) (t : Fin (cfgA m).N) (r : Fin 256) (j : Fin 160) (hr : t.val * 256 + r.val < 365568) :
    (iblk m c 4 t : Vec Ideal S256x160 .fp8e4m3) (ix2 r j) = (A2 m c (ix2 ⟨t.val * 256 + r.val, hr⟩ j) : EReal) := by
  have h := idx_4 t
  refine Eq.trans (congrArg (V m c main_arg2 : S365568x160.Idx → EReal) (funext fun a => Fin.ext ?_))
    (congrFun (V_of_not_written m c main_arg2 (by decide)) (ix2 ⟨t.val * 256 + r.val, hr⟩ j))
  fin_cases a
  · show cc0_transform_4 (grid0.coords t) 0 * 256 + 1 * r.val = t.val * 256 + r.val
    rw [h.1]; omega
  · show cc0_transform_4 (grid0.coords t) 1 * 160 + 1 * j.val = j.val
    rw [h.2]; omega

/-- The document scales' block at a point is the point's rows. -/
theorem iblk5_at (c : Dev nD) (t : Fin (cfgA m).N) (r : Fin 256) (hr : t.val * 256 + r.val < 365568) :
    (iblk m c 5 t : Vec Ideal S1x1x256 .f32) (ix3 (0 : Fin 1) (0 : Fin 1) r) = (A3 m c (ix1 ⟨t.val * 256 + r.val, hr⟩) : EReal) := by
  have h := idx_5 t
  refine Eq.trans (congrArg (V m c main_v17 : S1428x1x256.Idx → EReal) (funext fun a => Fin.ext ?_)) (V_v17 m c ⟨t.val, lt_N m t⟩ r)
  fin_cases a
  · show cc0_transform_5 (grid0.coords t) 0 * 1 + 1 * 0 = t.val
    rw [h.1]; omega
  · show cc0_transform_5 (grid0.coords t) 1 * 1 + 1 * 0 = 0
    rw [h.2.1]
  · show cc0_transform_5 (grid0.coords t) 2 * 256 + 1 * r.val = r.val
    rw [h.2.2]; omega

/-- The query rows, scaled. -/
theorem qfV_at (c : Dev nD) (q : Fin 68) (i : Fin 32) (j : Fin 160) :
    qfV m c (ix2 (kk q i) j) = (A0 m c (ix3 q i j) * A1 m c (ix2 q i) : EReal) := by
  unfold qfV
  refine (pay1_apply _ _ (kk q i) j).trans ?_
  exact congrArg₂ (fun a b : EReal => a * b) (iblk2_at m c _ q i j) (iblk3_at m c _ q i)

end Cert.KernelIdeal.Hand

end
-- ==== Proof.KiSum.lean ====
/-
  What the kernel's loop leaves over the exact numbers, for arguments whose positions lie in their documents and whose
  documents fit the array: at every grid point a row of the block is the sum over the positions that stand for the row,
  and the query accumulator after the last point is, for every position, the sum over the documents of the row it stands for.
-/
module

public import proofs.«01_k».proof.Proof.KiHost

@[expose] public section

set_option maxRecDepth 16384

noncomputable section

namespace Cert.KernelIdeal.Hand

open Cert.KernelIdeal.Gen Cert.Words
open Idealize.ShloMosaic hiding ix0 ix1 ix2 ix3 ix4 ix5
open Idealize.ShloMosaic.TcCoe Idealize.ShloMosaic.ValueIdx Idealize.ShloMosaic.Tactic

variable (m : (ℓ : Loc nD τ sig) → Buf (Elt Ideal) ℓ)

/-! ## The counts -/

theorem count_le (Q : Fin 408 → Prop) [DecidablePred Q] (d : Fin 408) (hd : ∀ e, Q e → e < d) : (Finset.univ.filter Q).card ≤ d.val := by
  have : Finset.univ.filter Q ⊆ Finset.Iio d := fun e he => Finset.mem_Iio.2 (hd e (Finset.mem_filter.1 he).2)
  exact (Finset.card_le_card this).trans (le_of_eq (Fin.card_Iio d))

theorem lt_count (Q : Fin 408 → Prop) [DecidablePred Q] (d : Fin 408) (hd : ∀ e, e ≤ d → Q e) : d.val < (Finset.univ.filter Q).card := by
  have : Finset.Iic d ⊆ Finset.univ.filter Q := fun e he => Finset.mem_filter.2 ⟨Finset.mem_univ _, hd e (Finset.mem_Iic.1 he)⟩
  have h := Finset.card_le_card this
  rw [Fin.card_Iic] at h
  omega

theorem cumW_eq (L : S408.Idx → BitVec 32) : cumW L = fun d => BitVec.ofNat 32 (pre L ((d 0).val + 1)) :=
  cum_eq L _ rfl _ _

/-- The two counts at a grid point. -/
def firstN (L : S408.Idx → BitVec 32) (t : ℕ) : ℕ := countN .sle (cumW L) (BitVec.ofNat 32 t * 256#32)
def lastN (L : S408.Idx → BitVec 32) (t : ℕ) : ℕ := countN .slt (fun d => cumW L d - L d) (BitVec.ofNat 32 t * 256#32 + 256#32)

variable {m}

/-- The document of a position that stands for a row of the block is among the ones the point's loop visits. -/
theorem visited {L : S408.Idx → BitVec 32} {X : S68x408x32.Idx → BitVec 32} (h : Good L X) (q : Fin 68) (d : Fin 408) (i : Fin 32) (t r : ℕ)
    (ht : t < 1428) (hr : r < 256) (e : row L X q d i = t * 256 + r) : firstN L t ≤ d.val ∧ d.val < lastN L t := by
  have hw : BitVec.ofNat 32 t * 256#32 = BitVec.ofNat 32 (t * 256) := by rw [← WordCmp.muli_ofNat]; rfl
  have hw' : BitVec.ofNat 32 t * 256#32 + 256#32 = BitVec.ofNat 32 (t * 256 + 256) := by rw [hw, BitVec.ofNat_add]
  constructor
  · unfold firstN countN
    refine count_le _ d fun e' he => ?_
    rw [hw, cumW_eq] at he
    have := (WordCmp.cmpi_sle_ofNat_eq_one_iff (w := 32) (by have := h.pre_le (d := e'.val + 1) e'.isLt; show pre L (e'.val + 1) < _; omega) (by omega)).1 he
    have this : pre L (e'.val + 1) ≤ t * 256 := this
    by_contra hc
    have h1 := pre_mono L (a := d.val + 1) (b := e'.val + 1) (by have := not_lt.1 hc; have := Fin.le_def.1 this; omega)
    have h2 := h.row_lt q d i
    omega
  · unfold lastN countN
    refine lt_count _ d fun e' he => ?_
    rw [hw', cumW_eq]
    have h1 := pre_mono L (a := e'.val) (b := d.val) (Fin.le_def.1 he)
    have h2 : pre L d.val ≤ row L X q d i := Nat.le_add_right _ _
    refine (congrArg (fun z => IntOp.cmpi .slt z (BitVec.ofNat 32 (t * 256 + 256))) (start_word e')).trans ?_
    exact (WordCmp.cmpi_slt_ofNat_eq_one_iff (w := 32) (by omega) (by omega)).2 (by omega)

variable (m)

/-! ## The words of a grid point -/

theorem off1_val : ∀ t : Fin grid0.N, k0_off1 (grid0.coords t) 0 = t.val := by decide +kernel

theorem wordAt_eq (t : Fin grid0.N) (x : Vec Ideal S1428 .i32) (ht : t.val < 1428) : wordAt (grid0.coords t) x = x (ix1 ⟨t.val, ht⟩) := by
  refine ld_at x _ _ _ _ _ fun a => ?_
  fin_cases a
  have h0 : ((one0 (0 : Fin 1)).val : ℕ) = 0 := Nat.lt_one_iff.1 (one0 (0 : Fin 1)).isLt
  show t.val = k0_off1 (grid0.coords t) 0 + (one0 (0 : Fin 1)).val
  rw [off1_val, h0, Nat.add_zero]

theorem word_first (c : Dev nD) (t : Fin (cfgA m).N) : wordAt (grid0.coords t) (x1 m c) = BitVec.ofNat 32 (firstN (lensW m c) t.val) := by
  rw [wordAt_eq t (x1 m c) (lt_N m t)]
  exact congrFun (V_first m c) _
theorem word_last (c : Dev nD) (t : Fin (cfgA m).N) : wordAt (grid0.coords t) (x2 m c) = BitVec.ofNat 32 (lastN (lensW m c) t.val) := by
  rw [wordAt_eq t (x2 m c) (lt_N m t)]
  exact congrFun (V_last m c) _

theorem firstN_le (L : S408.Idx → BitVec 32) (t : ℕ) : firstN L t ≤ 408 := countN_le _ _ _
theorem lastN_le (L : S408.Idx → BitVec 32) (t : ℕ) : lastN L t ≤ 408 := countN_le _ _ _

/-- The start of a document, as the table has it. -/
theorem x3_at (c : Dev nD) (d : Fin 408) : x3 m c (ix1 d) = BitVec.ofNat 32 (pre (lensW m c) d.val) := by
  refine (congrFun (V_start m c) (ix1 d)).trans ?_
  rw [cumW_eq]
  exact start_word d

/-! ## The selection matrix -/

/-- The blocks at their plain shapes. -/
abbrev b0 (c : Dev nD) (t : Fin (cfgA m).N) : Vec Ideal S408x2176 .i32 := iblk m c 0 t
abbrev b1 (c : Dev nD) (t : Fin (cfgA m).N) : Vec Ideal S408x2176 .f32 := iblk m c 1 t
abbrev b4 (c : Dev nD) (t : Fin (cfgA m).N) : Vec Ideal S256x160 .fp8e4m3 := iblk m c 4 t
abbrev b5 (c : Dev nD) (t : Fin (cfgA m).N) : Vec Ideal S1x1x256 .f32 := iblk m c 5 t

variable (c : Dev nD) (h : Good (lensW m c) (A5 m c))

include h in
/-- A document's selection matrix at a point: a position's weight in the row the position stands for. -/
theorem sel_at (t : Fin (cfgA m).N) (d : Fin 408) (r : Fin 256) (q : Fin 68) (i : Fin 32) :
    selN (gw (grid0.coords t)) (x3 m c) (b0 m c t) (b1 m c t) d.val r (kk q i)
      = (if row (lensW m c) (A5 m c) q d i = t.val * 256 + r.val then A6 m c (ix2 q d) else (0 : EReal)) := by
  unfold selN
  rw [dif_pos d.isLt]
  refine if_congr ?_ (iblk1_at m c t d q i) rfl
  have e : (b0 m c t (ix2 ⟨d.val, d.isLt⟩ (kk q i)) : BitVec 32) + ((x3 m c (ix1 ⟨d.val, d.isLt⟩) : BitVec 32) - gw (grid0.coords t) * 256#32)
      = A5 m c (ix3 q d i) + (BitVec.ofNat 32 (pre (lensW m c) d.val) - BitVec.ofNat 32 t.val * 256#32) := by
    unfold gw
    rw [coord_val t]
    exact congrArg₂ (fun a b : BitVec 32 => a + (b - BitVec.ofNat 32 t.val * 256#32)) (iblk0_at m c t d q i) (x3_at m c d)
  rw [Nat.mul_comm t.val 256]
  exact (iff_of_eq (congrArg (BitVec.ofNat 32 r.val = ·) e)).trans (match_iff h q d i t.val r.val (lt_N m t) r.isLt)

include h in
/-- Outside the documents a point visits the selection matrix is zero. -/
theorem sel_out (t : Fin (cfgA m).N) (d : ℕ) (hd : d < 408) (hn : ¬(firstN (lensW m c) t.val ≤ d ∧ d < lastN (lensW m c) t.val)) (r : Fin 256) (q : Fin 68) (i : Fin 32) :
    selN (gw (grid0.coords t)) (x3 m c) (b0 m c t) (b1 m c t) d r (kk q i) = (0 : EReal) :=
  (sel_at m c h t ⟨d, hd⟩ r q i).trans (if_neg fun e => hn (visited h q ⟨d, hd⟩ i t.val r.val (lt_N m t) r.isLt e))

/-- A sum over the columns is a sum over the queries and their positions. -/
theorem sum_kk (f : Fin 2176 → EReal) : ∑ k, f k = ∑ q : Fin 68, ∑ i : Fin 32, f (kk q i) :=
  (Fin.sum_mul_add_fin 68 32 f).symm

theorem kk_surj (k : Fin 2176) : ∃ q i, k = kk q i :=
  ⟨⟨k.val / 32, by omega⟩, ⟨k.val % 32, by omega⟩, Fin.ext (by show k.val = k.val / 32 * 32 + k.val % 32; omega)⟩

/-! ## The document block -/

theorem ddV_words (i : grid0.Coords) (v4 v6 : BitVec 32) (hw : k0_chk1 v4 v6) (a b : ℕ) (ha : a ≤ 408) (hb : b ≤ 408) (e4 : v4 = BitVec.ofNat 32 a) (e6 : v6 = BitVec.ofNat 32 b)
    (x3 : Vec Ideal S408 .i32) (x4 : Vec Ideal S408x2176 .i32) (x5 : Vec Ideal S408x2176 .f32) (qf : Vec Ideal S2176x160 .bf16) (d0 : Vec Ideal S256x160 .f32) (r : Fin 256) (j : Fin 160) :
    ddV i v4 v6 hw x3 x4 x5 qf d0 (k0_t1_loop v4 v6).trips (ix2 r j)
      = (d0 (ix2 r j) + ∑ n ∈ Finset.range (b - a), ∑ k : Fin 2176, selN (gw i) x3 x4 x5 (a + n) r k * qf (ix2 k j) : EReal) := by
  subst e4; subst e6
  rw [t1_trips a b ha hb]
  exact ddV_sum i a b ha hb hw x3 x4 x5 qf d0 r j (b - a) le_rfl

theorem accV_words (i : grid0.Coords) (v4 v6 : BitVec 32) (hw : k0_chk1 v4 v6) (a b : ℕ) (ha : a ≤ 408) (hb : b ≤ 408) (e4 : v4 = BitVec.ofNat 32 a) (e6 : v6 = BitVec.ofNat 32 b)
    (x3 : Vec Ideal S408 .i32) (x4 : Vec Ideal S408x2176 .i32) (x5 : Vec Ideal S408x2176 .f32) (x8 : Vec Ideal S256x160 .fp8e4m3) (x9 : Vec Ideal S1x1x256 .f32)
    (a0 : Vec Ideal S160x2176 .f32) (j : Fin 160) (k : Fin 2176) :
    accV i v4 v6 hw x3 x4 x5 x8 x9 a0 (k0_t1_loop v4 v6).trips (ix2 j k)
      = (a0 (ix2 j k) + ∑ n ∈ Finset.range (b - a), ∑ r : Fin 256, (x8 (ix2 r j) * x9 (ix3 (0 : Fin 1) (0 : Fin 1) r)) * selN (gw i) x3 x4 x5 (a + n) r k : EReal) := by
  subst e4; subst e6
  rw [t1_trips a b ha hb]
  exact accV_sum i a b ha hb hw x3 x4 x5 x8 x9 a0 j k (b - a) le_rfl

include h in
/-- A row of the block at a point: the sum over the positions that stand for the row. -/
theorem ddAt_at (t : Fin (cfgA m).N) (r : Fin 256) (j : Fin 160) :
    ddAt m c t (ix2 r j) = (∑ d : Fin 408, ∑ q : Fin 68, ∑ i : Fin 32,
      if row (lensW m c) (A5 m c) q d i = t.val * 256 + r.val then A6 m c (ix2 q d) * (A0 m c (ix3 q i j) * A1 m c (ix2 q i)) else 0 : EReal) := by
  unfold ddAt ddOut
  refine (ddV_words _ _ _ _ _ _ (firstN_le _ _) (lastN_le _ _) (word_first m c t) (word_last m c t) _ _ _ _ _ r j).trans ?_
  rw [pay3_apply, zero_add]
  refine (trips_sum (fun d => ∑ k : Fin 2176, selN (gw (grid0.coords t)) (x3 m c) (b0 m c t) (b1 m c t) d r k * (qfV m c (ix2 k j) : EReal)) _ _ (lastN_le _ _) ?_).trans ?_
  · intro d hd hn
    refine Finset.sum_eq_zero fun k _ => ?_
    obtain ⟨q, i, rfl⟩ := kk_surj k
    exact (congrArg (fun z : EReal => z * (qfV m c (ix2 (kk q i) j) : EReal)) (sel_out m c h t d hd hn r q i)).trans (zero_mul _)
  · refine Finset.sum_congr rfl fun d _ => ?_
    refine (sum_kk _).trans (Finset.sum_congr rfl fun q _ => Finset.sum_congr rfl fun i _ => ?_)
    refine (congrArg₂ (fun a b : EReal => a * b) (sel_at m c h t d r q i) (qfV_at m c q i j)).trans ?_
    by_cases hrow : row (lensW m c) (A5 m c) q d i = t.val * 256 + r.val
    · rw [if_pos hrow, if_pos hrow]
    · rw [if_neg hrow, if_neg hrow, zero_mul]

/-! ## The query accumulator -/

/-- A scaled document row's entry, by the row's number (zero past the last row). -/
def rowsN (j : Fin 160) (n : ℕ) : EReal := if hn : n < 365568 then A2 m c (ix2 ⟨n, hn⟩ j) * A3 m c (ix1 ⟨n, hn⟩) else 0

include h in
/-- The accumulator after the first points. -/
theorem accAt_at (j : Fin 160) (q : Fin 68) (i : Fin 32) (n : ℕ) (hn : n ≤ 1428) :
    accAt m c n (ix2 j (kk q i)) = (∑ t ∈ Finset.range n, ∑ d : Fin 408, ∑ r : Fin 256,
      rowsN m c j (t * 256 + r.val) * (if row (lensW m c) (A5 m c) q d i = t * 256 + r.val then A6 m c (ix2 q d) else 0) : EReal) := by
  induction n with
  | zero => rw [Finset.sum_range_zero]; exact pay2_apply _
  | succ n ih =>
    have hlt : n < (cfgA m).N := lt_of_lt_of_eq (by omega : n < 1428) N_0.symm
    rw [accAt, dif_pos hlt, Finset.sum_range_succ, ← ih (by omega)]
    refine (accV_words _ _ _ _ _ _ (firstN_le _ _) (lastN_le _ _) (word_first m c ⟨n, hlt⟩) (word_last m c ⟨n, hlt⟩) _ _ _ _ _ _ j (kk q i)).trans ?_
    refine congrArg (fun z : EReal => (accAt m c n (ix2 j (kk q i)) : EReal) + z) ?_
    refine (trips_sum (fun d => ∑ r : Fin 256, (b4 m c ⟨n, hlt⟩ (ix2 r j) * b5 m c ⟨n, hlt⟩ (ix3 (0 : Fin 1) (0 : Fin 1) r) : EReal)
      * selN (gw (grid0.coords ⟨n, hlt⟩)) (x3 m c) (b0 m c ⟨n, hlt⟩) (b1 m c ⟨n, hlt⟩) d r (kk q i)) _ _ (lastN_le _ _) ?_).trans ?_
    · intro d hd hnv
      refine Finset.sum_eq_zero fun r _ => ?_
      exact (congrArg (fun z : EReal => _ * z) (sel_out m c h ⟨n, hlt⟩ d hd hnv r q i)).trans (mul_zero _)
    · refine Finset.sum_congr rfl fun d _ => Finset.sum_congr rfl fun r _ => ?_
      have hr : n * 256 + r.val < 365568 := by have := r.isLt; omega
      refine congrArg₂ (fun a b : EReal => a * b) ?_ (sel_at m c h ⟨n, hlt⟩ d r q i)
      rw [rowsN, dif_pos hr]
      exact congrArg₂ (fun a b : EReal => a * b) (iblk4_at m c ⟨n, hlt⟩ r j hr) (iblk5_at m c ⟨n, hlt⟩ r hr)

include h in
/-- The accumulator after the last point: for a position, the sum over the documents of the row it stands for, weighted. -/
theorem acc_total (j : Fin 160) (q : Fin 68) (i : Fin 32) :
    accAt m c 1428 (ix2 j (kk q i)) = (∑ d : Fin 408,
      A6 m c (ix2 q d) * (A2 m c (ix2 ⟨row (lensW m c) (A5 m c) q d i, h.row_lt' q d i⟩ j) * A3 m c (ix1 ⟨row (lensW m c) (A5 m c) q d i, h.row_lt' q d i⟩)) : EReal) := by
  rw [accAt_at m c h j q i 1428 le_rfl, Finset.sum_comm]
  refine Finset.sum_congr rfl fun d _ => ?_
  set g : ℕ → EReal := fun n => rowsN m c j n * (if row (lensW m c) (A5 m c) q d i = n then A6 m c (ix2 q d) else (0 : EReal)) with hg
  have e1 : ∀ t, ∑ r : Fin 256, g (t * 256 + r.val) = ∑ r ∈ Finset.range 256, g (t * 256 + r) := fun t => (Finset.sum_range (fun r => g (t * 256 + r))).symm
  refine (Finset.sum_congr rfl fun t _ => e1 t).trans ((Finset.sum_range_mul_split 1428 256 g).symm.trans ?_)
  have hrow := h.row_lt' q d i
  rw [Finset.sum_eq_single (row (lensW m c) (A5 m c) q d i)]
  · rw [hg]
    simp only [if_true]
    rw [rowsN, dif_pos hrow, mul_comm]
  · intro n _ hne
    rw [hg]
    simp only
    rw [if_neg (Ne.symm hne), mul_zero]
  · intro hnm
    exact absurd (Finset.mem_range.2 hrow) hnm

end Cert.KernelIdeal.Hand

end
-- ==== Proof.KiVal.lean ====
/-
  The kernel's two results over the exact numbers, for arguments whose positions lie in their documents and whose
  documents fit the array, index by index.
-/
module

public import proofs.«01_k».proof.Proof.KiSum
public import Idealize.ShloMosaic.Lib.Pipeline.Covers

@[expose] public section

set_option maxRecDepth 16384

noncomputable section

namespace Cert.KernelIdeal.Hand

open Cert.KernelIdeal.Gen Cert.Words
open Idealize.ShloMosaic hiding ix0 ix1 ix2 ix3 ix4 ix5
open Idealize.ShloMosaic.TcCoe Idealize.ShloMosaic.ValueIdx Idealize.ShloMosaic.Tactic
open Idealize.ShloMosaic.Pipeline (Dat Cfg Window)

variable (m : (ℓ : Loc nD τ sig) → Buf (Elt Ideal) ℓ) (c : Dev nD) (h : Good (lensW m c) (A5 m c))

/-- The document gradient: a row's sum over the positions that stand for it. -/
def ddG : Vec Ideal S365568x160 .bf16 := fun x => (∑ d : Fin 408, ∑ q : Fin 68, ∑ i : Fin 32,
  if row (lensW m c) (A5 m c) q d i = (x 0).val then A6 m c (ix2 q d) * (A0 m c (ix3 q i (x 1)) * A1 m c (ix2 q i)) else 0 : EReal)

/-- The query accumulator's final contents. -/
def accG : Vec Ideal S160x2176 .bf16 := fun x => (accAt m c 1428 x : EReal)

theorem idx_6 : ∀ (t : Fin grid0.N) (a : Fin 2), cc0_transform_6 (grid0.coords t) a = 0 := by decide +kernel

/-- The second result's blocks tile its array. -/
theorem covers7 : ((cfgA m).win 7).Covers :=
  ((cfgA m).win 7).covers_of_index_surj rfl (show ∀ a : Fin 2, 0 < S256x160.size a by decide)
    (show ∀ β : (a : Fin 2) → Fin (((cfgA m).win 7).nblk a), ∃ t : Fin grid0.N, ∀ a : Fin 2, cc0_transform_7 (grid0.coords t) a = (β a).val from fun β => by
      have e0 : ((cfgA m).win 7).nblk (0 : Fin 2) = 1428 := by show (365568 + 256 - 1) / 256 = 1428; norm_num
      have e1 : ((cfgA m).win 7).nblk (1 : Fin 2) = 1 := by show (160 + 160 - 1) / 160 = 1; norm_num
      have h0 : (β 0).val < 1428 := lt_of_lt_of_eq (β 0).isLt e0
      have h1 : (β 1).val < 1 := lt_of_lt_of_eq (β 1).isLt e1
      refine ⟨⟨(β 0).val, lt_of_lt_of_eq h0 N_0.symm⟩, fun a => ?_⟩
      have hi := idx_7 ⟨(β 0).val, lt_of_lt_of_eq h0 N_0.symm⟩
      fin_cases a
      · exact hi.1
      · exact hi.2.trans (Nat.lt_one_iff.1 h1).symm)

include h in
/-- The second result's array after the run. -/
theorem arr7 : (dats m 0 c).arrAt 7 (cfgA m).N = ddG m c := by
  refine (dats m 0 c).arrAt_eq_of_covers 7 _ (covers7 m) fun t hf y => ?_
  rw [after7]
  have hD := ddAt_at m c h t
  generalize ddAt m c t = D at hD ⊢
  have hr : ((y (0 : Fin 2)).val : ℕ) < 256 := (y (0 : Fin 2)).isLt
  have hj : ((y (1 : Fin 2)).val : ℕ) < 160 := (y (1 : Fin 2)).isLt
  have hi := idx_7 t
  refine Eq.trans (congrArg (fun z => (D z : EReal)) (?_ : _ = ix2 ⟨(y (0 : Fin 2)).val, hr⟩ ⟨(y (1 : Fin 2)).val, hj⟩)) ((hD ⟨_, hr⟩ ⟨_, hj⟩).trans ?_)
  · refine funext fun a => Fin.ext ?_
    fin_cases a <;> rfl
  · have e0 : (((((cfgA m).win 7).blk t).view.emb y) (0 : Fin 2)).val = t.val * 256 + (y (0 : Fin 2)).val := by
      show cc0_transform_7 (grid0.coords t) 0 * 256 + 1 * (y (0 : Fin 2)).val = _
      rw [hi.1]; omega
    have e1 : ((((cfgA m).win 7).blk t).view.emb y) (1 : Fin 2) = (⟨(y (1 : Fin 2)).val, hj⟩ : Fin 160) := by
      refine Fin.ext ?_
      show cc0_transform_7 (grid0.coords t) 1 * 160 + 1 * (y (1 : Fin 2)).val = (y (1 : Fin 2)).val
      rw [hi.2]; omega
    refine Eq.trans ?_ (congrArg₂ (fun (n : ℕ) (j : Fin 160) => (∑ d : Fin 408, ∑ q : Fin 68, ∑ i : Fin 32,
      if row (lensW m c) (A5 m c) q d i = n then A6 m c (ix2 q d) * (A0 m c (ix3 q i j) * A1 m c (ix2 q i)) else 0 : EReal)) e0.symm e1.symm)
    rfl

/-- The first result's block is its whole array, written back at the last point. -/
theorem whole6 : ((cfgA m).win 6).WholeAt ⟨1427, lt_of_lt_of_eq (by omega : 1427 < 1428) N_0.symm⟩ := by
  refine ⟨(flush6 m _).2 rfl, fun t hf => Fin.ext ?_, fun a => ⟨idx_6 ⟨1427, lt_of_lt_of_eq (by omega : 1427 < 1428) N_0.symm⟩ a, rfl⟩⟩
  have h1 := (flush6 m t).1 hf
  have h2 := lt_N m t
  show t.val = 1427
  omega

/-- The last point. -/
abbrev tL : Fin (cfgA m).N := ⟨1427, lt_of_lt_of_eq (by omega : 1427 < 1428) N_0.symm⟩

/-- The first result's array after the run is what the body leaves at the last point. -/
theorem arr6_of (X : Vec Ideal S160x2176 .f32) (hX : (dats m 0 c).after 6 (tL m) = k0_pay7 X) :
    (dats m 0 c).arrAt 6 (cfgA m).N = fun x => (X x : EReal) := by
  refine (dats m 0 c).arrAt_eq_of_after_last 6 (tL m) (whole6 m) _ fun j => ?_
  rw [hX]
  rfl

/-- The first result's array after the run. -/
theorem arr6 : (dats m 0 c).arrAt 6 (cfgA m).N = accG m c :=
  arr6_of m c (accAt m c 1428) (after6 m c (tL m))

/-- The query gradient: for a position, the sum over the documents of the row it stands for, weighted. -/
def dqG : Vec Ideal S68x32x160 .bf16 := fun x => (∑ d : Fin 408,
  A6 m c (ix2 (x 0) d) * (A2 m c (ix2 ⟨row (lensW m c) (A5 m c) (x 0) d (x 1), h.row_lt' (x 0) d (x 1)⟩ (x 2)) * A3 m c (ix1 ⟨row (lensW m c) (A5 m c) (x 0) d (x 1), h.row_lt' (x 0) d (x 1)⟩)) : EReal)

/-- The first result at the end of the run. -/
theorem W_v20 : (W m c main_v20 : S68x32x160.Idx → EReal) = dqG m c h := by
  funext x
  rw [show x = ix3 (x 0 : Fin 68) (x 1 : Fin 32) (x 2 : Fin 160) from Idealize.ShloMosaic.ValueIdx.eq_ix3 x]
  generalize (x 0 : Fin 68) = q
  generalize (x 1 : Fin 32) = i
  generalize (x 2 : Fin 160) = j
  unfold W Pipeline.afterTail
  simp only [List.flatten_cons, List.flatten_nil, List.append_nil, hostOps1]
  after_reads_simp
  refine (Idealize.ShloMosaic.shapeCast_apply _ _ (ix3 q i j) (ix2 (kk q i) j) ?_).trans ?_
  · rw [Shape.rowMajor_val_three, Shape.rowMajor_val_two]
    rfl
  refine (Idealize.ShloMosaic.transpose_apply _ _ _ (ix2 (kk q i) j) (ix2 j (kk q i)) (fun a => by fin_cases a <;> rfl)).trans ?_
  refine (congrFun ((Pipeline.withArrays_arr spec0 (by decide) c _ _ 6).trans (arr6 m c)) (ix2 j (kk q i))).trans ?_
  exact acc_total m c h j q i

end Cert.KernelIdeal.Hand

end
-- ==== Proof.RefOps.lean ====
/-
  Four operations of the plain program read at an index: a look-up of matrix rows and of vector entries at a table of row
  numbers, the product with the batch axis first, and the addition of rows into a matrix at a list of row numbers.
-/
module

public import Idealize.ShloMosaic.Lib.ValueIdx
public import Idealize.ShloMosaic.Lib.StackMember
public import Idealize.ShloMosaic.Lib.Routing.OpsPair
public import Idealize.ShloMosaic.Lib.WordCmp

@[expose] public section

set_option maxRecDepth 16384

noncomputable section

namespace Cert.RefOps

open Idealize.ShloMosaic
open Idealize.ShloMosaic.ValueIdx

section Gather

variable {α : Type} {N B Q D I : Nat}

/-- Rows of an `N × B` matrix at a `Q × D × I` table of row numbers. -/
abbrev rowsDims (wf : GatherDims.WF ⟨2, ![N, B]⟩ ⟨4, ![Q, D, I, 1]⟩ ⟨4, ![Q, D, I, B]⟩ [3] [0] [] [0] [] 3 ![1, B]) :
    GatherDims ⟨2, ![N, B]⟩ ⟨4, ![Q, D, I, 1]⟩ ⟨4, ![Q, D, I, B]⟩ := ⟨[3], [0], [], [], [0], 3, ![1, B], wf⟩

/-- Where the table holds a row's number, the look-up holds the row. -/
theorem gather_rows (wf : GatherDims.WF ⟨2, ![N, B]⟩ ⟨4, ![Q, D, I, 1]⟩ ⟨4, ![Q, D, I, B]⟩ [3] [0] [] [0] [] 3 ![1, B])
    (x : (⟨2, ![N, B]⟩ : Shape).Idx → α) (idx : IVec ⟨4, ![Q, D, I, 1]⟩ 32) (q : Fin Q) (d : Fin D) (i : Fin I) (c : Fin B) (b : Fin N)
    (hb : idx (ix4 q d i (0 : Fin 1)) = BitVec.ofNat 32 b.val) (hN : N < 2 ^ 31) :
    Host.gather (rowsDims wf) x idx (ix4 q d i c) = x (ix2 b c) := by
  unfold Host.gather
  refine congrArg x (funext fun a => Fin.ext ?_)
  match a with
  | ⟨0, _⟩ =>
    show (rowsDims wf).start (ix4 q d i c) idx 0 + (rowsDims wf).batchCoord (ix4 q d i c) 0 + (rowsDims wf).offCoord (ix4 q d i c) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix4 q d i c) ⟨List.idxOf (0 : Fin 2) (rowsDims wf).startIndexMap,
        List.idxOf_lt_length_iff.2 (List.mem_singleton.mpr rfl)⟩ = ix4 q d i (0 : Fin 1) := by
      funext b'; refine Fin.ext ?_
      match b' with
      | ⟨0, _⟩ => rfl
      | ⟨1, _⟩ => rfl
      | ⟨2, _⟩ => rfl
      | ⟨3, _⟩ => rfl
    have hbl := b.isLt
    rw [hsi, hb, StableHlo.Predicate.toInt_ofNat_small _ (by omega)]
    show min ((b.val : Int)).toNat (N - 1) = b.val
    omega
  | ⟨1, _⟩ =>
    show (rowsDims wf).start (ix4 q d i c) idx 1 + (rowsDims wf).batchCoord (ix4 q d i c) 1 + (rowsDims wf).offCoord (ix4 q d i c) 1 = c.val
    rw [GatherDims.batchCoord_eq_zero _ _ _ List.not_mem_nil, Nat.add_zero]
    unfold GatherDims.start
    rw [dif_neg (show (1 : Fin 2) ∉ (rowsDims wf).startIndexMap from fun h => absurd (List.mem_singleton.1 h) (show ¬ ((1 : Fin 2) = 0) by decide)), Nat.zero_add]
    rfl

/-- Entries of a vector of `N` at a `Q × D × I` table of numbers. -/
abbrev entDims (wf : GatherDims.WF ⟨1, ![N]⟩ ⟨4, ![Q, D, I, 1]⟩ ⟨3, ![Q, D, I]⟩ [] [0] [] [0] [] 3 ![1]) :
    GatherDims ⟨1, ![N]⟩ ⟨4, ![Q, D, I, 1]⟩ ⟨3, ![Q, D, I]⟩ := ⟨[], [0], [], [], [0], 3, ![1], wf⟩

/-- Where the table holds an entry's number, the look-up holds the entry. -/
theorem gather_ents (wf : GatherDims.WF ⟨1, ![N]⟩ ⟨4, ![Q, D, I, 1]⟩ ⟨3, ![Q, D, I]⟩ [] [0] [] [0] [] 3 ![1])
    (x : (⟨1, ![N]⟩ : Shape).Idx → α) (idx : IVec ⟨4, ![Q, D, I, 1]⟩ 32) (q : Fin Q) (d : Fin D) (i : Fin I) (b : Fin N)
    (hb : idx (ix4 q d i (0 : Fin 1)) = BitVec.ofNat 32 b.val) (hN : N < 2 ^ 31) :
    Host.gather (entDims wf) x idx (ix3 q d i) = x (ix1 b) := by
  unfold Host.gather
  refine congrArg x (funext fun a => Fin.ext ?_)
  match a with
  | ⟨0, _⟩ =>
    show (entDims wf).start (ix3 q d i) idx 0 + (entDims wf).batchCoord (ix3 q d i) 0 + (entDims wf).offCoord (ix3 q d i) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entDims wf).startIndexMap from List.mem_singleton.mpr rfl)]
    have hsi : (entDims wf).siIdx (ix3 q d i) ⟨List.idxOf (0 : Fin 1) (entDims wf).startIndexMap,
        List.idxOf_lt_length_iff.2 (List.mem_singleton.mpr rfl)⟩ = ix4 q d i (0 : Fin 1) := by
      funext b'; refine Fin.ext ?_
      match b' with
      | ⟨0, _⟩ => rfl
      | ⟨1, _⟩ => rfl
      | ⟨2, _⟩ => rfl
      | ⟨3, _⟩ => rfl
    have hbl := b.isLt
    rw [hsi, hb, StableHlo.Predicate.toInt_ofNat_small _ (by omega)]
    show min ((b.val : Int)).toNat (N - 1) = b.val
    omega

end Gather

section Dot

variable {Q D I B : Nat}

/-- The product over the second axis of a `Q × D` matrix and a `Q × D × I × B` array, for each `q` by itself. -/
theorem dot_apply {φ₁ φ₂ : FTy} (w : DotDims.WF ⟨2, ![Q, D]⟩ ⟨4, ![Q, D, I, B]⟩ ⟨3, ![Q, I, B]⟩ [1] [1] [] [2, 3] [0] [0])
    (prec : Option ContractPrecision) (x : FVec Ideal ⟨2, ![Q, D]⟩ φ₁) (y : FVec Ideal ⟨4, ![Q, D, I, B]⟩ φ₂) (q : Fin Q) (i : Fin I) (c : Fin B) :
    Host.dotGeneral (⟨[1], [1], [], [2, 3], [0], [0], w⟩ : DotDims _ _ _) prec x y (ix3 q i c)
      = (∑ d : Fin D, x (ix2 q d) * y (ix4 q d i c) : EReal) := by
  show FloatOps.dotGeneral _ prec _ x y (ix3 q i c) = _
  rw [Ideal.dotGeneral_apply, ← Equiv.sum_comp (contrEquiv1 (⟨[1], [1], [], [2, 3], [0], [0], w⟩ : DotDims _ _ _) D rfl rfl).symm]
  refine Finset.sum_congr rfl fun d _ => ?_
  have c3 := contrEquiv1_symm_val (⟨[1], [1], [], [2, 3], [0], [0], w⟩ : DotDims ⟨2, ![Q, D]⟩ ⟨4, ![Q, D, I, B]⟩ ⟨3, ![Q, I, B]⟩) D rfl rfl d
  have l3 : (⟨[1], [1], [], [2, 3], [0], [0], w⟩ : DotDims ⟨2, ![Q, D]⟩ ⟨4, ![Q, D, I, B]⟩ ⟨3, ![Q, I, B]⟩).lhsIdx (ix3 q i c)
      ((contrEquiv1 _ D rfl rfl).symm d) = ix2 q d := by
    funext ax; apply Fin.ext
    match ax with
    | ⟨0, _⟩ => simp [DotDims.lhsIdx]; rfl
    | ⟨1, _⟩ => simp [DotDims.lhsIdx]; exact c3
  have r3 : (⟨[1], [1], [], [2, 3], [0], [0], w⟩ : DotDims ⟨2, ![Q, D]⟩ ⟨4, ![Q, D, I, B]⟩ ⟨3, ![Q, I, B]⟩).rhsIdx (ix3 q i c)
      ((contrEquiv1 _ D rfl rfl).symm d) = ix4 q d i c := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
    | ⟨3, _⟩ => simp [DotDims.rhsIdx]; rfl
  rw [l3, r3]

end Dot

section Scatter

variable {R C M : Nat}

/-- Rows of an `M × C` matrix added into an `R × C` matrix at a list of row numbers. -/
abbrev addDims (wf : ScatterDims.WF ⟨2, ![R, C]⟩ ⟨2, ![M, 1]⟩ ⟨2, ![M, C]⟩ [1] [0] [0] 1) : ScatterDims ⟨2, ![R, C]⟩ ⟨2, ![M, 1]⟩ ⟨2, ![M, C]⟩ := ⟨[1], [0], [0], 1, wf⟩

/-- Where an update lands: in the row its word names, in its own column. -/
theorem lands (wf : ScatterDims.WF ⟨2, ![R, C]⟩ ⟨2, ![M, 1]⟩ ⟨2, ![M, C]⟩ [1] [0] [0] 1) (idx : IVec ⟨2, ![M, 1]⟩ 32)
    (k : Fin M) (c' : Fin C) (r : Fin R) (c : Fin C) (n : ℕ) (hn : idx (ix2 k (0 : Fin 1)) = BitVec.ofNat 32 n) (hn31 : n < 2 ^ 31) :
    (addDims wf).resultIdx? (ix2 k c') idx = some (ix2 r c) ↔ n = r.val ∧ c' = c := by
  have hs0 : (addDims wf).start (ix2 k c') idx 0 = (n : Int) := by
    unfold ScatterDims.start
    rw [dif_pos (show (0 : Fin 2) ∈ (addDims wf).scatterDimsToOperandDims from List.mem_singleton.mpr rfl)]
    have hsi : (addDims wf).siIdx (ix2 k c') ⟨List.idxOf (0 : Fin 2) (addDims wf).scatterDimsToOperandDims,
        List.idxOf_lt_length_iff.2 (List.mem_singleton.mpr rfl)⟩ = ix2 k (0 : Fin 1) := by
      funext b'; refine Fin.ext ?_
      match b' with
      | ⟨0, _⟩ => rfl
      | ⟨1, _⟩ => rfl
    rw [hsi, hn, StableHlo.Predicate.toInt_ofNat_small _ (by omega)]
  have hs1 : (addDims wf).start (ix2 k c') idx 1 = 0 := by
    unfold ScatterDims.start
    rw [dif_neg (show (1 : Fin 2) ∉ (addDims wf).scatterDimsToOperandDims from fun h => absurd (List.mem_singleton.1 h) (show ¬ ((1 : Fin 2) = 0) by decide))]
  have hw0 : (addDims wf).window (ix2 k c') 0 = 0 := rfl
  have hw1 : (addDims wf).window (ix2 k c') 1 = c'.val := rfl
  refine (Routing.resultIdx?_ix2 (addDims wf) (ix2 k c') idx r c).trans ?_
  rw [hs0, hs1, hw0, hw1]
  constructor
  · rintro ⟨h1, h2⟩
    exact ⟨by omega, Fin.ext (by omega)⟩
  · rintro ⟨h1, rfl⟩
    exact ⟨by omega, by omega⟩

/-- Entry `(r, c)` of the sum: what was there plus the updates' entries in column `c` whose word names row `r`. -/
theorem add_rows (wf : ScatterDims.WF ⟨2, ![R, C]⟩ ⟨2, ![M, 1]⟩ ⟨2, ![M, C]⟩ [1] [0] [0] 1) {φ : FTy} (x : FVec Ideal ⟨2, ![R, C]⟩ φ) (idx : IVec ⟨2, ![M, 1]⟩ 32)
    (upd : FVec Ideal ⟨2, ![M, C]⟩ φ) (n : Fin M → ℕ) (hn : ∀ k, idx (ix2 k (0 : Fin 1)) = BitVec.ofNat 32 (n k)) (hn31 : ∀ k, n k < 2 ^ 31) (r : Fin R) (c : Fin C) :
    Host.scatterAdd (addDims wf) x idx upd (ix2 r c) = (x (ix2 r c) + ∑ k : Fin M, if n k = r.val then upd (ix2 k c) else 0 : EReal) := by
  show (x (ix2 r c) + ∑ j ∈ Finset.univ.filter (fun j => (addDims wf).resultIdx? j idx = some (ix2 r c)), upd j : EReal) = _
  refine congrArg (fun z : EReal => (x (ix2 r c) : EReal) + z) ?_
  rw [← Finset.sum_filter]
  symm
  refine Finset.sum_bij (fun k _ => (ix2 k c : (⟨2, ![M, C]⟩ : Shape).Idx)) (fun k hk => ?_) (fun k _ k' _ e => ?_) (fun j hj => ?_) (fun k _ => rfl)
  · exact Finset.mem_filter.2 ⟨Finset.mem_univ _, (lands wf idx k c r c (n k) (hn k) (hn31 k)).2 ⟨(Finset.mem_filter.1 hk).2, rfl⟩⟩
  · exact congrFun e 0
  · have ej : j = ix2 (j 0 : Fin M) (j 1 : Fin C) := Idealize.ShloMosaic.ValueIdx.eq_ix2 j
    rw [ej] at hj
    have hl := (lands wf idx (j 0) (j 1) r c (n (j 0)) (hn _) (hn31 _)).1 (Finset.mem_filter.1 hj).2
    exact ⟨j 0, Finset.mem_filter.2 ⟨Finset.mem_univ _, hl.1⟩, by rw [← hl.2]; exact ej.symm⟩

end Scatter

end Cert.RefOps

end
-- ==== Proof.RefPure.lean ====
/-
  The plain program's host part as functions of arrays over the exact numbers, read index by index where every position lies
  in its document and the documents fit the array.
-/
module

public import proofs.«01_k».proof.Proof.Gen.ReferenceIdeal.Launch
public import proofs.«01_k».proof.Proof.RefOps
public import proofs.«01_k».proof.Proof.Words
public import Idealize.ShloMosaic.Lib.Pipeline.ValueKit
public import Idealize.ShloMosaic.Lib.IdealHost

@[expose] public section

set_option maxRecDepth 16384

noncomputable section

namespace Cert.ReferenceIdeal.Hand

open Cert.ReferenceIdeal.Gen Cert.Words
open Idealize.ShloMosaic hiding ix0 ix1 ix2 ix3 ix4 ix5
open Idealize.ShloMosaic.TcCoe Idealize.ShloMosaic.ValueIdx

variable (L : S408.Idx → BitVec 32) (X : S68x408x32.Idx → BitVec 32)

/-! ## The row words -/

/-- The running sums of the lengths. -/
def cumV : S408.Idx → BitVec 32 :=
  Host.reduceWindow IntOp.addi ![408] ![1] ![407] ![0] L (broadcastInDim S_ ![] bcast_S_S_ (constantI S_ 32 0#32)) reduceWindows_S408_S408_w408s1p407_0 h_S_

/-- The row a position stands for, as a word. -/
def rowV : S68x408x32.Idx → BitVec 32 :=
  addi (broadcastInDim S68x408x32 ![0, 1, 2] bcast_S1x408x1_S68x408x32_0_1_2 (broadcastInDim S1x408x1 ![1] bcast_S408_S1x408x1_1 (subi (cumV L) L))) X

theorem cumV_eq : cumV L = fun d => BitVec.ofNat 32 (pre L ((d 0).val + 1)) := cum_eq L _ rfl _ _

/-- It is the word of the row's number. -/
theorem rowV_at (q : Fin 68) (d : Fin 408) (i : Fin 32) : rowV L X (ix3 q d i) = BitVec.ofNat 32 (row L X q d i) := by
  have e : broadcastInDim S68x408x32 ![0, 1, 2] bcast_S1x408x1_S68x408x32_0_1_2 (broadcastInDim S1x408x1 ![1] bcast_S408_S1x408x1_1 (subi (cumV L) L)) (ix3 q d i)
      = BitVec.ofNat 32 (pre L d.val) := by
    refine (Idealize.ShloMosaic.broadcastInDim_apply _ _ _ (ix3 q d i) (ix3 (0 : Fin 1) d (0 : Fin 1)) (fun a => by fin_cases a <;> rfl)).trans ?_
    refine (Idealize.ShloMosaic.broadcastInDim_apply _ _ _ (ix3 (0 : Fin 1) d (0 : Fin 1)) (ix1 d) (fun a => by fin_cases a; rfl)).trans ?_
    show cumV L (ix1 d) - L (ix1 d) = _
    rw [cumV_eq]
    exact start_word d
  show broadcastInDim S68x408x32 ![0, 1, 2] bcast_S1x408x1_S68x408x32_0_1_2 (broadcastInDim S1x408x1 ![1] bcast_S408_S1x408x1_1 (subi (cumV L) L)) (ix3 q d i) + X (ix3 q d i) = _
  rw [e]
  exact row_word q d i

/-- The reading of a negative row number from the end of the array. -/
def wrapV {s : Shape} (hb : S_.BroadcastsInDim s (![] : Fin 0 → Fin s.rank)) (x : s.Idx → BitVec 32) : s.Idx → BitVec 32 :=
  select (cmpi .slt x (broadcastInDim s ![] hb (constantI S_ 32 0#32))) (addi x (broadcastInDim s ![] hb (constantI S_ 32 365568#32))) x

/-- It leaves a small number as it is. -/
theorem wrapV_at {s : Shape} (hb : S_.BroadcastsInDim s (![] : Fin 0 → Fin s.rank)) (x : s.Idx → BitVec 32) (j : s.Idx) (n : ℕ)
    (hx : x j = BitVec.ofNat 32 n) (hn : n < 2 ^ 31) : wrapV hb x j = BitVec.ofNat 32 n := by
  have h := Routing.wrap_of_lt (x j) (x j + 365568#32) (by rw [hx, WordCmp.toNat_ofNat_of_lt (by omega)]; exact hn)
  exact h.trans hx

/-- The table of row numbers the look-ups read. -/
def tableV : S68x408x32x1.Idx → BitVec 32 :=
  broadcastInDim S68x408x32x1 ![0, 1, 2] bcast_S68x408x32_S68x408x32x1_0_1_2 (wrapV bcast_S_S68x408x32 (rowV L X))

variable {L X} (h : Good L X)

include h in
theorem tableV_at (q : Fin 68) (d : Fin 408) (i : Fin 32) : tableV L X (ix4 q d i (0 : Fin 1)) = BitVec.ofNat 32 (row L X q d i) := by
  refine (Idealize.ShloMosaic.broadcastInDim_apply _ _ _ (ix4 q d i (0 : Fin 1)) (ix3 q d i) (fun a => by fin_cases a <;> rfl)).trans ?_
  exact wrapV_at _ _ _ _ (rowV_at L X q d i) (by have := h.row_lt' q d i; omega)

/-! ## The query gradient -/

variable (L X) in
/-- The query gradient's last lines: the looked-up rows scaled, weighted and summed over the documents. -/
def dqV (c2 : FVec Ideal S365568x160 .bf16) (s3 : FVec Ideal S365568 .f32) (g : FVec Ideal S68x408 .bf16) : FVec Ideal S68x32x160 .bf16 :=
  truncf .bf16 (Host.dotGeneral dot_S68x408_S68x408x32x160_S68x32x160_1_1_n_23_0_0 none g
    (mulf (Host.gather gather_S365568x160_S68x408x32x1_S68x408x32x160_3_0_n_n_0_3_1160 c2 (tableV L X))
      (broadcastInDim S68x408x32x160 ![0, 1, 2, 3] bcast_S68x408x32x1_S68x408x32x160_0_1_2_3
        (broadcastInDim S68x408x32x1 ![0, 1, 2] bcast_S68x408x32_S68x408x32x1_0_1_2
          (truncf .bf16 (Host.gather gather_S365568_S68x408x32x1_S68x408x32_n_0_n_n_0_3_1 s3 (tableV L X) : FVec Ideal S68x408x32 .f32) bitsLt_bf16_f32)))) : FVec Ideal S68x32x160 .f32) bitsLt_bf16_f32

/-- Its entries. -/
theorem dqV_at (c2 : FVec Ideal S365568x160 .bf16) (s3 : FVec Ideal S365568 .f32) (g : FVec Ideal S68x408 .bf16) (q : Fin 68) (i : Fin 32) (j : Fin 160) :
    dqV L X c2 s3 g (ix3 q i j) = (∑ d : Fin 408,
      g (ix2 q d) * (c2 (ix2 ⟨row L X q d i, h.row_lt' q d i⟩ j) * s3 (ix1 ⟨row L X q d i, h.row_lt' q d i⟩)) : EReal) := by
  refine (RefOps.dot_apply dot_S68x408_S68x408x32x160_S68x32x160_1_1_n_23_0_0.wf none g _ q i j).trans ?_
  refine Finset.sum_congr rfl fun d _ => ?_
  refine congrArg (fun z : EReal => (g (ix2 q d) : EReal) * z) ?_
  refine congrArg₂ (fun a b : EReal => a * b) ?_ ?_
  · exact RefOps.gather_rows gather_S365568x160_S68x408x32x1_S68x408x32x160_3_0_n_n_0_3_1160.wf c2 (tableV L X) q d i j ⟨row L X q d i, h.row_lt' q d i⟩ (tableV_at h q d i) (by norm_num)
  · refine (Idealize.ShloMosaic.broadcastInDim_apply _ _ _ (ix4 q d i j) (ix4 q d i (0 : Fin 1)) (fun a => by fin_cases a <;> rfl)).trans ?_
    refine (Idealize.ShloMosaic.broadcastInDim_apply _ _ _ (ix4 q d i (0 : Fin 1)) (ix3 q d i) (fun a => by fin_cases a <;> rfl)).trans ?_
    exact RefOps.gather_ents gather_S365568_S68x408x32x1_S68x408x32_n_0_n_n_0_3_1.wf s3 (tableV L X) q d i ⟨row L X q d i, h.row_lt' q d i⟩ (tableV_at h q d i) (by norm_num)

/-! ## The document gradient -/

/-- A position's place in the flat list of positions. -/
def pos (q : Fin 68) (d : Fin 408) (i : Fin 32) : Fin 887808 := ⟨(q.val * 408 + d.val) * 32 + i.val, by omega⟩

theorem pos_surj (k : Fin 887808) : ∃ q d i, k = pos q d i :=
  ⟨⟨k.val / 32 / 408, by omega⟩, ⟨k.val / 32 % 408, by omega⟩, ⟨k.val % 32, by omega⟩, Fin.ext (by show k.val = (k.val / 32 / 408 * 408 + k.val / 32 % 408) * 32 + k.val % 32; omega)⟩

/-- A sum over the flat list is the sum over the positions. -/
theorem sum_pos (f : Fin 887808 → EReal) : ∑ k, f k = ∑ q : Fin 68, ∑ d : Fin 408, ∑ i : Fin 32, f (pos q d i) := by
  rw [← Fin.sum_mul_add_fin 27744 32 f (by norm_num),
    ← Fin.sum_mul_add_fin 68 408 (fun s : Fin 27744 => ∑ i : Fin 32, f ⟨s.val * 32 + i.val, by omega⟩) (by norm_num)]
  rfl

variable (L X) in
/-- The flat list of row numbers the addition reads. -/
def listV : S887808x1.Idx → BitVec 32 :=
  broadcastInDim S887808x1 ![0] bcast_S887808_S887808x1_0 (wrapV bcast_S_S887808 (shapeCast S887808 (rowV L X) shapeCasts_S68x408x32_S887808))

include h in
theorem listV_at (q : Fin 68) (d : Fin 408) (i : Fin 32) : listV L X (ix2 (pos q d i) (0 : Fin 1)) = BitVec.ofNat 32 (row L X q d i) := by
  refine (Idealize.ShloMosaic.broadcastInDim_apply _ _ _ (ix2 (pos q d i) (0 : Fin 1)) (ix1 (pos q d i)) (fun a => by fin_cases a; rfl)).trans ?_
  refine wrapV_at _ _ _ _ (Eq.trans ?_ (rowV_at L X q d i)) (by have := h.row_lt' q d i; omega)
  refine Idealize.ShloMosaic.shapeCast_apply _ _ (ix1 (pos q d i)) (ix3 q d i) ?_
  rw [Shape.rowMajor_val_three, Shape.rowMajor_val_one]
  rfl

/-- The weighted, scaled query rows, one per position. -/
def updV (q0 : FVec Ideal S68x32x160 .f32) (s1 : FVec Ideal S68x32 .f32) (g : FVec Ideal S68x408 .bf16) : FVec Ideal S68x408x32x160 .f32 :=
  mulf (broadcastInDim S68x408x32x160 ![0, 1, 2, 3] bcast_S68x408x1x1_S68x408x32x160_0_1_2_3
      (broadcastInDim S68x408x1x1 ![0, 1] bcast_S68x408_S68x408x1x1_0_1 (extf .f32 g bitsLt_bf16_f32)))
    (broadcastInDim S68x408x32x160 ![0, 1, 2, 3] bcast_S68x1x32x160_S68x408x32x160_0_1_2_3
      (broadcastInDim S68x1x32x160 ![0, 2, 3] bcast_S68x32x160_S68x1x32x160_0_2_3
        (mulf q0 (broadcastInDim S68x32x160 ![0, 1, 2] bcast_S68x32x1_S68x32x160_0_1_2 (broadcastInDim S68x32x1 ![0, 1] bcast_S68x32_S68x32x1_0_1 s1)))))

theorem updV_at (q0 : FVec Ideal S68x32x160 .f32) (s1 : FVec Ideal S68x32 .f32) (g : FVec Ideal S68x408 .bf16) (q : Fin 68) (d : Fin 408) (i : Fin 32) (j : Fin 160) :
    updV q0 s1 g (ix4 q d i j) = (g (ix2 q d) * (q0 (ix3 q i j) * s1 (ix2 q i)) : EReal) := by
  refine congrArg₂ (fun a b : EReal => a * b) ?_ ?_
  · refine (Idealize.ShloMosaic.broadcastInDim_apply _ _ _ (ix4 q d i j) (ix4 q d (0 : Fin 1) (0 : Fin 1)) (fun a => by fin_cases a <;> rfl)).trans ?_
    exact Idealize.ShloMosaic.broadcastInDim_apply _ _ _ (ix4 q d (0 : Fin 1) (0 : Fin 1)) (ix2 q d) (fun a => by fin_cases a <;> rfl)
  · refine (Idealize.ShloMosaic.broadcastInDim_apply _ _ _ (ix4 q d i j) (ix4 q (0 : Fin 1) i j) (fun a => by fin_cases a <;> rfl)).trans ?_
    refine (Idealize.ShloMosaic.broadcastInDim_apply _ _ _ (ix4 q (0 : Fin 1) i j) (ix3 q i j) (fun a => by fin_cases a <;> rfl)).trans ?_
    refine congrArg (fun z : EReal => (q0 (ix3 q i j) : EReal) * z) ?_
    refine (Idealize.ShloMosaic.broadcastInDim_apply _ _ _ (ix3 q i j) (ix3 q i (0 : Fin 1)) (fun a => by fin_cases a <;> rfl)).trans ?_
    exact Idealize.ShloMosaic.broadcastInDim_apply _ _ _ (ix3 q i (0 : Fin 1)) (ix2 q i) (fun a => by fin_cases a <;> rfl)

variable (L X) in
/-- The document gradient's last lines: the query rows added into a zero array at the row numbers. -/
def ddV (q0 : FVec Ideal S68x32x160 .f32) (s1 : FVec Ideal S68x32 .f32) (g : FVec Ideal S68x408 .bf16) : FVec Ideal S365568x160 .bf16 :=
  truncf .bf16 (Host.scatterAdd scatter_S365568x160_S887808x1_S887808x160_1_0_0_1
    (broadcastInDim S365568x160 ![] bcast_S_S365568x160 (constant S_ .f32 0x00000000#32 : FVec Ideal S_ .f32)) (listV L X)
    (shapeCast S887808x160 (updV q0 s1 g) shapeCasts_S68x408x32x160_S887808x160)) bitsLt_bf16_f32

include h in
/-- Its entries. -/
theorem ddV_at (q0 : FVec Ideal S68x32x160 .f32) (s1 : FVec Ideal S68x32 .f32) (g : FVec Ideal S68x408 .bf16) (r : Fin 365568) (j : Fin 160) :
    ddV L X q0 s1 g (ix2 r j) = (∑ d : Fin 408, ∑ q : Fin 68, ∑ i : Fin 32,
      if row L X q d i = r.val then g (ix2 q d) * (q0 (ix3 q i j) * s1 (ix2 q i)) else 0 : EReal) := by
  have hb : ∀ q d i, (listV L X (ix2 (pos q d i) (0 : Fin 1))).toNat = row L X q d i := fun q d i => by
    have := h.row_lt' q d i
    rw [listV_at h, WordCmp.toNat_ofNat_of_lt (by omega)]
  refine (RefOps.add_rows scatter_S365568x160_S887808x1_S887808x160_1_0_0_1.wf _ (listV L X) (shapeCast S887808x160 (updV q0 s1 g) shapeCasts_S68x408x32x160_S887808x160)
    (fun k => (listV L X (ix2 k (0 : Fin 1))).toNat) (fun k => by rw [BitVec.ofNat_toNat, BitVec.setWidth_eq]) (fun k => ?_) r j).trans ?_
  · obtain ⟨q, d, i, rfl⟩ := pos_surj k
    have := h.row_lt' q d i
    rw [hb]; omega
  · rw [broadcastInDim_scalar_apply, sum_pos, Finset.sum_comm]
    refine (congrArg₂ (fun a b : EReal => a + b) (show (constant S_ .f32 0x00000000#32 : FVec Ideal S_ .f32) ix0 = (0 : EReal) from Ideal.ofBits_zero_f32) ?_).trans (zero_add _)
    refine Finset.sum_congr rfl fun d _ => Finset.sum_congr rfl fun q _ => Finset.sum_congr rfl fun i _ => ?_
    rw [hb]
    refine congrArg (fun z : EReal => if row L X q d i = r.val then z else 0) ?_
    refine (Idealize.ShloMosaic.shapeCast_apply _ _ (ix2 (pos q d i) j) (ix4 q d i j) ?_).trans (updV_at q0 s1 g q d i j)
    rw [Shape.rowMajor_val_four, Shape.rowMajor_val_two]
    rfl

end Cert.ReferenceIdeal.Hand

end
-- ==== Proof.RefVal.lean ====
/-
  The plain program's two results over the exact numbers: what its lines after the region leave, in terms of its arguments.
-/
module

public import proofs.«01_k».proof.Proof.Gen.ReferenceIdeal.Frame
public import proofs.«01_k».proof.Proof.RefPure
public import Idealize.ShloMosaic.Lib.Pipeline.Covers
public import Idealize.ShloMosaic.Lib.StableHlo.RunRead

@[expose] public section

set_option maxRecDepth 16384

noncomputable section

namespace Cert.ReferenceIdeal.Hand

open Cert.ReferenceIdeal.Gen Cert.Words
open Idealize.ShloMosaic hiding ix0 ix1 ix2 ix3 ix4 ix5
open Idealize.ShloMosaic.TcCoe Idealize.ShloMosaic.ValueIdx Idealize.ShloMosaic.Tactic
open Idealize.ShloMosaic.Pipeline (Dat Cfg Window)

variable (m : (ℓ : Loc nD τ sig) → Buf (Elt Ideal) ℓ) (c : Dev nD)

abbrev A0 : Vec Ideal S68x32x160 .fp8e4m3 := m ((c : Thread nD τ).loc main_arg0)
abbrev A1 : Vec Ideal S68x32 .f32 := m ((c : Thread nD τ).loc main_arg1)
abbrev A2 : Vec Ideal S365568x160 .fp8e4m3 := m ((c : Thread nD τ).loc main_arg2)
abbrev A3 : Vec Ideal S365568 .f32 := m ((c : Thread nD τ).loc main_arg3)
abbrev A4 : Vec Ideal S408 .i32 := m ((c : Thread nD τ).loc main_arg4)
abbrev A5 : Vec Ideal S68x408x32 .i32 := m ((c : Thread nD τ).loc main_arg5)
abbrev A6 : Vec Ideal S68x408 .bf16 := m ((c : Thread nD τ).loc main_arg6)

/-- The contents at the end of the run. -/
abbrev R (b : Ref sig .tc) := Pipeline.afterTail₀ cfgs (dats m) 0 (V0 m) [hostOps1, hostOps1_1] c b

/-! ## The widened codes -/

theorem whole2 : (cfg0.win 2).WholeAt t0_0 := ⟨rfl, fun t _ => fin_N0 t, fun a => ⟨by fin_cases a <;> rfl, rfl⟩⟩
theorem whole3 : (cfg0.win 3).WholeAt t0_0 := ⟨rfl, fun t _ => fin_N0 t, fun a => ⟨by fin_cases a <;> rfl, rfl⟩⟩

theorem iblk0 (t : Fin cfg0.N) : (iblk m c 0 t : S68x32x160.Idx → EReal) = A0 m c := by
  funext y
  refine congrArg (A0 m c : S68x32x160.Idx → EReal) (funext fun a => Fin.ext ?_)
  fin_cases a
  · show 0 * 68 + 1 * (y (0 : Fin 3)).val = (y (0 : Fin 3)).val; omega
  · show 0 * 32 + 1 * (y (1 : Fin 3)).val = (y (1 : Fin 3)).val; omega
  · show 0 * 160 + 1 * (y (2 : Fin 3)).val = (y (2 : Fin 3)).val; omega

theorem iblk1 (t : Fin cfg0.N) : (iblk m c 1 t : S365568x160.Idx → EReal) = A2 m c := by
  funext y
  refine congrArg (A2 m c : S365568x160.Idx → EReal) (funext fun a => Fin.ext ?_)
  fin_cases a
  · show 0 * 365568 + 1 * (y (0 : Fin 2)).val = (y (0 : Fin 2)).val; omega
  · show 0 * 160 + 1 * (y (1 : Fin 2)).val = (y (1 : Fin 2)).val; omega

theorem out2_eq (x0 : Vec Ideal S68x32x160 .fp8e4m3) (x1 : Vec Ideal S365568x160 .fp8e4m3) : (out0_2 x0 x1 : S68x32x160.Idx → EReal) = x0 := by
  unfold out0_2
  refine (View.canon_unit_zero (S := S68x32x160) (funext fun a => by fin_cases a <;> rfl) _ _).trans ?_
  rw [View.ld_unit_zero (S := S68x32x160) (funext fun a => by fin_cases a <;> rfl)]
  rfl

theorem out3_eq (x0 : Vec Ideal S68x32x160 .fp8e4m3) (x1 : Vec Ideal S365568x160 .fp8e4m3) : (out0_3 x0 x1 : S365568x160.Idx → EReal) = x1 := by
  unfold out0_3
  refine (View.canon_unit_zero (S := S365568x160) (funext fun a => by fin_cases a <;> rfl) _ _).trans ?_
  rw [View.ld_unit_zero (S := S365568x160) (funext fun a => by fin_cases a <;> rfl)]
  rfl

/-- The widened query codes. -/
theorem arr2 : ((dats m 0 c).arrAt 2 cfg0.N : S68x32x160.Idx → EReal) = A0 m c := by
  refine (dats m 0 c).arrAt_eq_of_after_last 2 t0_0 whole2 _ fun j => ?_
  rw [after0_2]
  have e := out2_eq (iblk m c 0 t0_0) (iblk m c 1 t0_0)
  generalize out0_2 (iblk m c 0 t0_0) (iblk m c 1 t0_0) = O at e ⊢
  have e' : (O : S68x32x160.Idx → EReal) = A0 m c := e.trans (iblk0 m c t0_0)
  exact congrFun e' _

/-- The widened document codes. -/
theorem arr3 : ((dats m 0 c).arrAt 3 cfg0.N : S365568x160.Idx → EReal) = A2 m c := by
  refine (dats m 0 c).arrAt_eq_of_after_last 3 t0_0 whole3 _ fun j => ?_
  rw [after0_3]
  have e := out3_eq (iblk m c 0 t0_0) (iblk m c 1 t0_0)
  generalize out0_3 (iblk m c 0 t0_0) (iblk m c 1 t0_0) = O at e ⊢
  have e' : (O : S365568x160.Idx → EReal) = A2 m c := e.trans (iblk1 m c t0_0)
  exact congrFun e' _

/-! ## The lines after the region -/

/-- The contents the lines after the region start from. -/
abbrev W0 : Valuation τ sig (Elt Ideal) := Pipeline.withArrays spec0 c (V0 m c) fun w => (dats m 0 c).arrAt w cfg0.N

theorem W0_v0_0 : (W0 m c (Proc.devRef .tc main_v0_0) : S68x32x160.Idx → EReal) = A0 m c :=
  (Pipeline.withArrays_arr spec0 (by decide) c _ _ 2).trans (arr2 m c)
theorem W0_v0_1 : (W0 m c (Proc.devRef .tc main_v0_1) : S365568x160.Idx → EReal) = A2 m c :=
  (Pipeline.withArrays_arr spec0 (by decide) c _ _ 3).trans (arr3 m c)
theorem W0_arg1 : W0 m c (Proc.devRef .tc main_arg1) = A1 m c :=
  Pipeline.withArrays_of_ne _ c (V0 m c) _ main_arg1 (by exact (by decide : ∀ w, Pipeline.arrRef spec0 w ≠ main_arg1))
theorem W0_arg3 : W0 m c (Proc.devRef .tc main_arg3) = A3 m c :=
  Pipeline.withArrays_of_ne _ c (V0 m c) _ main_arg3 (by exact (by decide : ∀ w, Pipeline.arrRef spec0 w ≠ main_arg3))
theorem W0_arg4 : W0 m c (Proc.devRef .tc main_arg4) = A4 m c :=
  Pipeline.withArrays_of_ne _ c (V0 m c) _ main_arg4 (by exact (by decide : ∀ w, Pipeline.arrRef spec0 w ≠ main_arg4))
theorem W0_arg5 : W0 m c (Proc.devRef .tc main_arg5) = A5 m c :=
  Pipeline.withArrays_of_ne _ c (V0 m c) _ main_arg5 (by exact (by decide : ∀ w, Pipeline.arrRef spec0 w ≠ main_arg5))
theorem W0_arg6 : W0 m c (Proc.devRef .tc main_arg6) = A6 m c :=
  Pipeline.withArrays_of_ne _ c (V0 m c) _ main_arg6 (by exact (by decide : ∀ w, Pipeline.arrRef spec0 w ≠ main_arg6))

set_option maxHeartbeats 2000000 in
/-- What the lines leave in the first result. -/
theorem lines_v25 (U : Valuation τ sig (Elt Ideal)) :
    StableHlo.after (List.flatten [hostOps1, hostOps1_1]) U (Proc.devRef .tc main_v25)
      = dqV (U (Proc.devRef .tc main_arg4)) (U (Proc.devRef .tc main_arg5)) (U (Proc.devRef .tc main_v0_1)) (U (Proc.devRef .tc main_arg3)) (U (Proc.devRef .tc main_arg6)) := by
  rw [show (List.flatten [hostOps1, hostOps1_1] : List (HloOp τ sig (Elt Ideal))) = hostOps1 ++ hostOps1_1 from rfl]
  after_reads_simp
  simp only [StableHlo.TRef.toBuf, StableHlo.TRef.ofBuf, cast_cast, cast_eq]
  rfl

set_option maxHeartbeats 2000000 in
/-- What they leave in the second. -/
theorem lines_v45 (U : Valuation τ sig (Elt Ideal)) :
    StableHlo.after (List.flatten [hostOps1, hostOps1_1]) U (Proc.devRef .tc main_v45)
      = ddV (U (Proc.devRef .tc main_arg4)) (U (Proc.devRef .tc main_arg5)) (U (Proc.devRef .tc main_v0_0)) (U (Proc.devRef .tc main_arg1)) (U (Proc.devRef .tc main_arg6)) := by
  rw [show (List.flatten [hostOps1, hostOps1_1] : List (HloOp τ sig (Elt Ideal))) = hostOps1 ++ hostOps1_1 from rfl]
  after_reads_simp
  simp only [StableHlo.TRef.toBuf, StableHlo.TRef.ofBuf, cast_cast, cast_eq]
  rfl

/-- Equal arrays leave equal results. -/
theorem dqV_congr {L L' : S408.Idx → BitVec 32} {X X' : S68x408x32.Idx → BitVec 32} {c2 c2' : FVec Ideal S365568x160 .bf16} {s3 s3' : FVec Ideal S365568 .f32}
    {g g' : FVec Ideal S68x408 .bf16} (e1 : L = L') (e2 : X = X') (e3 : c2 = c2') (e4 : s3 = s3') (e5 : g = g') : dqV L X c2 s3 g = dqV L' X' c2' s3' g' := by
  subst e1 e2 e3 e4 e5; rfl

theorem ddV_congr {L L' : S408.Idx → BitVec 32} {X X' : S68x408x32.Idx → BitVec 32} {q0 q0' : FVec Ideal S68x32x160 .f32} {s1 s1' : FVec Ideal S68x32 .f32}
    {g g' : FVec Ideal S68x408 .bf16} (e1 : L = L') (e2 : X = X') (e3 : q0 = q0') (e4 : s1 = s1') (e5 : g = g') : ddV L X q0 s1 g = ddV L' X' q0' s1' g' := by
  subst e1 e2 e3 e4 e5; rfl

/-- The first result, as a function of the arguments. -/
theorem R_v25 : R m c main_v25 = dqV (A4 m c) (A5 m c) (A2 m c) (A3 m c) (A6 m c) :=
  (lines_v25 (W0 m c)).trans (dqV_congr (W0_arg4 m c) (W0_arg5 m c) (W0_v0_1 m c) (W0_arg3 m c) (W0_arg6 m c))

/-- The second result, as a function of the arguments. -/
theorem R_v45 : R m c main_v45 = ddV (A4 m c) (A5 m c) (A0 m c) (A1 m c) (A6 m c) :=
  (lines_v45 (W0 m c)).trans (ddV_congr (W0_arg4 m c) (W0_arg5 m c) (W0_v0_0 m c) (W0_arg1 m c) (W0_arg6 m c))

end Cert.ReferenceIdeal.Hand

end
-- ==== Proof.PreVal.lean ====
/-
  What the precondition says: its side conditions hold, and where it is all ones the documents fit the array and every
  position lies in its document.
-/
module

public import proofs.«01_k».proof.Proof.Words
public import Idealize.ShloMosaic.Lib.Pipeline.ValueKit
public import Idealize.ShloMosaic.Lib.IdealHost
public import Idealize.ShloMosaic.PureOps.Ideal

@[expose] public section

set_option maxRecDepth 16384

noncomputable section

namespace Cert.Pre_indices_in_documents.Hand

open Cert.Words
open Idealize.ShloMosaic hiding ix0 ix1 ix2 ix3 ix4 ix5
open Idealize.ShloMosaic.ValueIdx

/-- The precondition's side conditions. -/
theorem facts : Cert.Pre_indices_in_documents.Facts where
  bcast_S_S68x408x32 := by decide
  bcast_S408_S1x408x1_1 := by decide
  bcast_S1x408x1_S68x408x32_0_1_2 := by decide
  bcast_S_S408 := by decide
  bcast_S_S_ := by decide
  reduceWindows_S408_S408_w408s1p407_0 := by decide
  h_S_ := by decide

variable [Cert.Pre_indices_in_documents.Facts]
variable (a0 : FVec Ideal S68x32x160 .fp8e4m3) (a1 : FVec Ideal S68x32 .f32) (a2 : FVec Ideal S365568x160 .fp8e4m3) (a3 : FVec Ideal S365568 .f32)
  (L : IVec S408 32) (X : IVec S68x408x32 32) (a6 : FVec Ideal S68x408 .bf16)

/-- Where the precondition is all ones the words are good. -/
theorem good (h : (fn (F := Ideal) a0 a1 a2 a3 L X a6).1 = (fun _ => 1#1) ∧ (fn (F := Ideal) a0 a1 a2 a3 L X a6).2.1 = (fun _ => 1#1)
    ∧ (fn (F := Ideal) a0 a1 a2 a3 L X a6).2.2.1 = (fun _ => 1#1) ∧ (fn (F := Ideal) a0 a1 a2 a3 L X a6).2.2.2 = (fun _ => 1#1)) : Good L X := by
  obtain ⟨h1, h2, h3, h4⟩ := h
  refine good_of L X (fun q d i => ?_) (fun q d i => ?_) (fun d => ?_) (fun d => ?_)
  · have e : (fn (F := Ideal) a0 a1 a2 a3 L X a6).1 = cmpi .sge X (broadcastInDim S68x408x32 ![] Facts.bcast_S_S68x408x32 (constantI S_ 32 0#32)) := rfl
    exact congrFun (e.symm.trans h1) (ix3 q d i)
  · refine Eq.trans (congrArg (IntOp.cmpi .slt (X (ix3 q d i))) ?_) (congrFun h2 (ix3 q d i))
    refine Eq.symm ((Idealize.ShloMosaic.broadcastInDim_apply _ _ _ (ix3 q d i) (ix3 (0 : Fin 1) d (0 : Fin 1)) (fun a => by fin_cases a <;> rfl)).trans ?_)
    exact Idealize.ShloMosaic.broadcastInDim_apply _ _ _ (ix3 (0 : Fin 1) d (0 : Fin 1)) (ix1 d) (fun a => by fin_cases a; rfl)
  · have e : (fn (F := Ideal) a0 a1 a2 a3 L X a6).2.2.1 = cmpi .sle L (broadcastInDim S408 ![] Facts.bcast_S_S408 (constantI S_ 32 365568#32)) := rfl
    exact congrFun (e.symm.trans h3) (ix1 d)
  · have e : (fn (F := Ideal) a0 a1 a2 a3 L X a6).2.2.2
        = cmpi .sle (Host.reduceWindow IntOp.addi ![408] ![1] ![407] ![0] L (broadcastInDim S_ ![] Facts.bcast_S_S_ (constantI S_ 32 0#32)) Facts.reduceWindows_S408_S408_w408s1p407_0 Facts.h_S_)
          (broadcastInDim S408 ![] Facts.bcast_S_S408 (constantI S_ 32 365568#32)) := by
      unfold fn fn_cumsum; rfl
    rw [cum_eq L _ rfl] at e
    exact congrFun (e.symm.trans h4) (ix1 d)

end Cert.Pre_indices_in_documents.Hand

end
-- ==== Proof.Algebraic.lean ====
/-
  The kernel and the plain program over the exact numbers leave the same two results.
-/
module

public import proofs.«01_k».proof.Defs
public import proofs.«01_k».proof.Proof.KiVal
public import proofs.«01_k».proof.Proof.RefVal
public import proofs.«01_k».proof.Proof.PreVal

@[expose] public section

set_option maxRecDepth 16384

noncomputable section

namespace Cert.Hand

open Cert.Words
open Idealize.ShloMosaic hiding ix0 ix1 ix2 ix3 ix4 ix5
open Idealize.ShloMosaic.TcCoe Idealize.ShloMosaic.ValueIdx
open Idealize.SL.Sem

section Values

open Cert.KernelIdeal.Hand

variable (m : (ℓ : Loc KernelIdeal.nD KernelIdeal.τ KernelIdeal.sig) → Buf (Elt Ideal) ℓ) (c : Dev KernelIdeal.nD) (h : Good (lensW m c) (A5 m c))

/-- The plain program's first result at the kernel's arguments is the kernel's. -/
theorem dq_eq : ReferenceIdeal.Hand.dqV (lensW m c) (A5 m c) (A2 m c) (A3 m c) (A6 m c) = dqG m c h := by
  funext x
  rw [show x = ix3 (x 0 : Fin 68) (x 1 : Fin 32) (x 2 : Fin 160) from Idealize.ShloMosaic.ValueIdx.eq_ix3 x]
  exact ReferenceIdeal.Hand.dqV_at h (A2 m c) (A3 m c) (A6 m c) (x 0) (x 1) (x 2)

include h in
/-- The plain program's second result at the kernel's arguments is the kernel's. -/
theorem dd_eq : ReferenceIdeal.Hand.ddV (lensW m c) (A5 m c) (A0 m c) (A1 m c) (A6 m c) = ddG m c := by
  funext x
  rw [show x = ix2 (x 0 : Fin 365568) (x 1 : Fin 160) from Idealize.ShloMosaic.ValueIdx.eq_ix2 x]
  exact ReferenceIdeal.Hand.ddV_at h (A0 m c) (A1 m c) (A6 m c) (x 0) (x 1)

end Values

/-- The kernel's run leaves its two results as said, and its arguments as they were. -/
theorem kernel_run (m : (ℓ : Loc KernelIdeal.nD KernelIdeal.τ KernelIdeal.sig) → Buf (Elt Ideal) ℓ) (g : Dev KernelIdeal.nD → PrngReg)
    (h : ∀ c, Good (KernelIdeal.Hand.lensW m c) (KernelIdeal.Hand.A5 m c)) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v20) = KernelIdeal.Hand.dqG m c (h c)
      ∧ r.2.mem ((c.tc : Thread KernelIdeal.nD KernelIdeal.τ).loc KernelIdeal.main_v18_1) = KernelIdeal.Hand.ddG m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)) :=
  (θ_run _ _ _).mono (fun r hr c => ⟨((hr.1 c).2 KernelIdeal.main_v20 (Pipeline.mem_restRefs_of KernelIdeal.main_v20 (by decide) (by exact (by decide : ∀ w, Pipeline.arrRef KernelIdeal.spec0 w ≠ KernelIdeal.main_v20)))).trans (KernelIdeal.Hand.W_v20 m c (h c)),
    ((hr.1 c).1 7).trans (KernelIdeal.Hand.arr7 m c (h c)), KernelIdeal.Hand.args_of m r hr.1 c⟩) (KernelIdeal.Hand.run_main_quiescent m g)

/-- The plain program's run leaves its two results as said. -/
theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v25)
        = ReferenceIdeal.Hand.dqV (ReferenceIdeal.Hand.A4 m c) (ReferenceIdeal.Hand.A5 m c) (ReferenceIdeal.Hand.A2 m c) (ReferenceIdeal.Hand.A3 m c) (ReferenceIdeal.Hand.A6 m c)
      ∧ r.2.mem ((c.tc : Thread ReferenceIdeal.nD ReferenceIdeal.τ).loc ReferenceIdeal.main_v45)
        = ReferenceIdeal.Hand.ddV (ReferenceIdeal.Hand.A4 m c) (ReferenceIdeal.Hand.A5 m c) (ReferenceIdeal.Hand.A0 m c) (ReferenceIdeal.Hand.A1 m c) (ReferenceIdeal.Hand.A6 m c)) :=
  (θ_run _ _ _).mono (fun r hr c => ⟨((hr c).2 ReferenceIdeal.main_v25 (Pipeline.mem_restRefs_of ReferenceIdeal.main_v25 (by decide) (by decide))).trans (ReferenceIdeal.Hand.R_v25 m c),
    ((hr c).2 ReferenceIdeal.main_v45 (Pipeline.mem_restRefs_of ReferenceIdeal.main_v45 (by decide) (by decide))).trans (ReferenceIdeal.Hand.R_v45 m c)⟩) (ReferenceIdeal.Gen.run_main m g)

/-- From memories that agree on the arguments, the precondition holding, the two programs leave equal results. -/
theorem algebraic [hP : Cert.Pre_indices_in_documents.Facts] : Cert.algebraic_KernelIdeal_ReferenceIdeal_pre_indices_in_documents := by
  intro m g m' g' hpre hagree
  have h : ∀ c, Good (KernelIdeal.Hand.lensW m c) (KernelIdeal.Hand.A5 m c) := fun c => Cert.Pre_indices_in_documents.Hand.good _ _ _ _ _ _ _ (hpre c)
  refine ⟨fun c => KernelIdeal.Hand.dqG m c (h c), fun c => KernelIdeal.Hand.ddG m c, kernel_run m g h, ?_⟩
  refine (θ_run _ _ _).mono (fun r hr c => ?_) (θ_run_and (reference_run m' g') (ReferenceIdeal.Gen.unchanged m' g'))
  obtain ⟨e0, e1, e2, e3, e4, e5, e6⟩ := hagree c
  exact ⟨((hr.1 c).1.trans (ReferenceIdeal.Hand.dqV_congr e4 e5 e2 e3 e6)).trans (dq_eq m c (h c)),
    ((hr.1 c).2.trans (ReferenceIdeal.Hand.ddV_congr e4 e5 e0 e1 e6)).trans (dd_eq m c (h c)), hr.2 c⟩

end Cert.Hand

end
-- ==== Proof.lean ====
module

public import proofs.«01_k».proof.Defs
public import proofs.«01_k».proof.Proof.KQuiet
public import proofs.«01_k».proof.Proof.KiQuiet
public import proofs.«01_k».proof.Proof.Gen.ReferenceIdeal.Frame
public import proofs.«01_k».proof.Proof.Algebraic

@[expose] public section

noncomputable section

namespace Cert.Proof

open Idealize.ShloMosaic Idealize.SL.Sem

/-- Every claim of the certificate holds. -/
theorem claim : Cert.Claim := ⟨Cert.Kernel.Gen.facts, Cert.KernelIdeal.Gen.facts, Cert.ReferenceIdeal.Gen.facts, Cert.Pre_indices_in_documents.Hand.facts,
  fun m g _ => Cert.Kernel.Hand.frame m g, fun m g _ => Cert.KernelIdeal.Hand.frame m g, fun m g _ => Cert.KernelIdeal.Hand.frame m g,
  fun m g _ => Cert.ReferenceIdeal.Gen.frame m g, fun m g _ => Cert.ReferenceIdeal.Gen.frame m g, trivial,
  @Cert.Hand.algebraic Cert.Pre_indices_in_documents.Hand.facts⟩

end Cert.Proof

end
